-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible_KernelIdeal [hPre_admissible_KernelIdeal : Cert.Pre_admissible_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_admissible_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible_ReferenceIdeal [hPre_admissible_ReferenceIdeal : Cert.Pre_admissible_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_admissible_KernelIdeal [hKernelIdeal : Cert.KernelIdeal.Facts] [hPre_admissible_KernelIdeal : Cert.Pre_admissible_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_admissible_ReferenceIdeal [hReferenceIdeal : Cert.ReferenceIdeal.Facts] [hPre_admissible_ReferenceIdeal : Cert.Pre_admissible_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_admissible_KernelIdeal [hKernelIdeal : Cert.KernelIdeal.Facts] [hReferenceIdeal : Cert.ReferenceIdeal.Facts] [hPre_admissible_KernelIdeal : Cert.Pre_admissible_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![32768, 1]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![32768, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_admissible_KernelIdeal : Cert.Pre_admissible_KernelIdeal.Facts) (hPre_admissible_ReferenceIdeal : Cert.Pre_admissible_ReferenceIdeal.Facts),
    quiescent_Kernel (hKernel := hKernel)
    ∧ quiescent_KernelIdeal (hKernelIdeal := hKernelIdeal)
    ∧ quiescent_KernelIdeal_pre_admissible_KernelIdeal (hKernelIdeal := hKernelIdeal) (hPre_admissible_KernelIdeal := hPre_admissible_KernelIdeal)
    ∧ quiescent_ReferenceIdeal (hReferenceIdeal := hReferenceIdeal)
    ∧ quiescent_ReferenceIdeal_pre_admissible_ReferenceIdeal (hReferenceIdeal := hReferenceIdeal) (hPre_admissible_ReferenceIdeal := hPre_admissible_ReferenceIdeal)
    ∧ preserves_Kernel_KernelIdeal
    ∧ algebraic_KernelIdeal_ReferenceIdeal_pre_admissible_KernelIdeal (hKernelIdeal := hKernelIdeal) (hReferenceIdeal := hReferenceIdeal) (hPre_admissible_KernelIdeal := hPre_admissible_KernelIdeal)
-- ==== Pre_admissible_KernelIdeal.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S512x1024 : Shape := ⟨2, ![512, 1024]⟩
abbrev S1024x32 : Shape := ⟨2, ![1024, 32]⟩
abbrev S_ : Shape := ⟨0, ![]⟩
abbrev S32 : Shape := ⟨1, ![32]⟩

class Facts : Prop where
  bcast_S_S1024x1 : S_.BroadcastsInDim S1024x1 (![] : Fin 0 → Fin S1024x1.rank)
  bcast_S1024x1_S1024x32_0_1 : S1024x1.BroadcastsInDim S1024x32 (![0, 1] : Fin 2 → Fin S1024x32.rank)
  natLt_1_32 : 1 < 32
  reducesTo_S1024x32_S32_d0 : S1024x32.ReducesTo [0] S32
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512x128 : S_.BroadcastsInDim S512x128 (![] : Fin 0 → Fin S512x128.rank)
  reducesTo_S512x128_S_d0_1 : S512x128.ReducesTo [0, 1] S_
  reducesTo_S1024x1_S_d0_1 : S1024x1.ReducesTo [0, 1] S_
  bcast_S_S32 : S_.BroadcastsInDim S32 (![] : Fin 0 → Fin S32.rank)
  reducesTo_S32_S_d0 : S32.ReducesTo [0] S_

variable [Facts]

def fn_where {F : FTy → Type} [FloatOps F] (arg0 : IVec S1024x1 1) (arg1 : IVec S1024x1 32) (arg2 : IVec S1024x1 32) : IVec S1024x1 32 :=
  let v0 : IVec S1024x1 32 := select arg0 arg1 arg2
  v0

def fn_floor_divide {F : FTy → Type} [FloatOps F] (arg0 : IVec S1024x1 32) (arg1 : IVec S_ 32) : IVec S1024x1 32 :=
  let v0 : IVec S_ 32 := id arg1
  let v1 : IVec S1024x1 32 := broadcastInDim S1024x1 ![] bcast_S_S1024x1 v0
  let v2 : IVec S1024x1 32 := Host.divsi arg0 v1
  let v3 : IVec S1024x1 32 := signi arg0
  let v4 : IVec S_ 32 := signi v0
  let v5 : IVec S1024x1 32 := broadcastInDim S1024x1 ![] bcast_S_S1024x1 v4
  let v6 : IVec S1024x1 1 := cmpi .ne v3 v5
  let v7 : IVec S1024x1 32 := broadcastInDim S1024x1 ![] bcast_S_S1024x1 v0
  let v8 : IVec S1024x1 32 := Host.remsi arg0 v7
  let c : IVec S_ 32 := constantI S_ 32 0#32
  let v9 : IVec S1024x1 32 := broadcastInDim S1024x1 ![] bcast_S_S1024x1 c
  let v10 : IVec S1024x1 1 := cmpi .ne v8 v9
  let v11 : IVec S1024x1 1 := andi v6 v10
  let c_0 : IVec S_ 32 := constantI S_ 32 1#32
  let v12 : IVec S1024x1 32 := broadcastInDim S1024x1 ![] bcast_S_S1024x1 c_0
  let v13 : IVec S1024x1 32 := subi v2 v12
  let v14 : IVec S1024x1 32 := fn_where (F := F) v11 v13 v2
  v14

def fn_part1 {F : FTy → Type} [FloatOps F] (main_arg2 : IVec S1024x1 32) (main_v5 : IVec S32 32) (main_v14 : IVec S_ 1) (main_v16 : IVec S1024x1 1) : IVec S_ 1 :=
  let main_c_5 : IVec S_ 32 := constantI S_ 32 128#32
  let main_v17 : IVec S1024x1 32 := broadcastInDim S1024x1 ![] bcast_S_S1024x1 main_c_5
  let main_v18 : IVec S1024x1 1 := cmpi .slt main_arg2 main_v17
  let main_v19 : IVec S1024x1 1 := andi main_v16 main_v18
  let main_c_6 : IVec S_ 1 := constantI S_ 1 1#1
  let main_v20 : IVec S_ 1 := (fun x v => Host.reduce IntOp.andi x v reducesTo_S1024x1_S_d0_1 h_S_) main_v19 main_c_6
  let main_v21 : IVec S_ 1 := andi main_v14 main_v20
  let main_c_7 : IVec S_ 32 := constantI S_ 32 64#32
  let main_v22 : IVec S32 32 := broadcastInDim S32 ![] bcast_S_S32 main_c_7
  let main_v23 : IVec S32 1 := cmpi .sle main_v5 main_v22
  let main_c_8 : IVec S_ 1 := constantI S_ 1 1#1
  let main_v24 : IVec S_ 1 := (fun x v => Host.reduce IntOp.andi x v reducesTo_S32_S_d0 h_S_) main_v23 main_c_8
  let main_v25 : IVec S_ 1 := andi main_v21 main_v24
  main_v25

def fn {F : FTy → Type} [FloatOps F] (main_arg0 : FVec F S1024x512 .bf16) (main_arg1 : FVec F S512x128 .bf16) (main_arg2 : IVec S1024x1 32) (main_arg3 : FVec F S4x512x1024 .bf16) (main_arg4 : FVec F S512x1024 .bf16) : IVec S_ 1 :=
  let main_v0 : IVec S1024x32 32 := iotaInDim S1024x32 32 1
  let main_c : IVec S_ 32 := constantI S_ 32 4#32
  let main_v1 : IVec S1024x1 32 := fn_floor_divide (F := F) main_arg2 main_c
  let main_v2 : IVec S1024x32 32 := broadcastInDim S1024x32 ![0, 1] bcast_S1024x1_S1024x32_0_1 main_v1
  let main_v3 : IVec S1024x32 1 := cmpi .eq main_v2 main_v0
  let main_v4 : IVec S1024x32 32 := (extui 32 · natLt_1_32) main_v3
  let main_c_0 : IVec S_ 32 := constantI S_ 32 0#32
  let main_v5 : IVec S32 32 := (fun x v => Host.reduce IntOp.addi x v reducesTo_S1024x32_S32_d0 h_S_) main_v4 main_c_0
  let main_v6 : FVec F S1024x512 .bf16 := Host.absf main_arg0
  let main_cst : FVec F S_ .bf16 := constant S_ .bf16 0x7F80#16
  let main_v7 : FVec F S1024x512 .bf16 := broadcastInDim S1024x512 ![] bcast_S_S1024x512 main_cst
  let main_v8 : IVec S1024x512 1 := cmpf .olt main_v6 main_v7
  let main_c_1 : IVec S_ 1 := constantI S_ 1 1#1
  let main_v9 : IVec S_ 1 := (fun x v => Host.reduce IntOp.andi x v reducesTo_S1024x512_S_d0_1 h_S_) main_v8 main_c_1
  let main_v10 : FVec F S512x128 .bf16 := Host.absf main_arg1
  let main_cst_2 : FVec F S_ .bf16 := constant S_ .bf16 0x7F80#16
  let main_v11 : FVec F S512x128 .bf16 := broadcastInDim S512x128 ![] bcast_S_S512x128 main_cst_2
  let main_v12 : IVec S512x128 1 := cmpf .olt main_v10 main_v11
  let main_c_3 : IVec S_ 1 := constantI S_ 1 1#1
  let main_v13 : IVec S_ 1 := (fun x v => Host.reduce IntOp.andi x v reducesTo_S512x128_S_d0_1 h_S_) main_v12 main_c_3
  let main_v14 : IVec S_ 1 := andi main_v9 main_v13
  let main_c_4 : IVec S_ 32 := constantI S_ 32 0#32
  let main_v15 : IVec S1024x1 32 := broadcastInDim S1024x1 ![] bcast_S_S1024x1 main_c_4
  let main_v16 : IVec S1024x1 1 := cmpi .sge main_arg2 main_v15
  fn_part1 (F := F) main_arg2 main_v5 main_v14 main_v16
-- ==== Pre_admissible_ReferenceIdeal.lean ====
abbrev S32768x512 : Shape := ⟨2, ![32768, 512]⟩
abbrev S512x128 : Shape := ⟨2, ![512, 128]⟩
abbrev S32768x1 : Shape := ⟨2, ![32768, 1]⟩
abbrev S128x512x1024 : Shape := ⟨3, ![128, 512, 1024]⟩
abbrev S512x1024 : Shape := ⟨2, ![512, 1024]⟩
abbrev S32768x32 : Shape := ⟨2, ![32768, 32]⟩
abbrev S_ : Shape := ⟨0, ![]⟩
abbrev S32 : Shape := ⟨1, ![32]⟩

class Facts : Prop where
  bcast_S_S32768x1 : S_.BroadcastsInDim S32768x1 (![] : Fin 0 → Fin S32768x1.rank)
  bcast_S32768x1_S32768x32_0_1 : S32768x1.BroadcastsInDim S32768x32 (![0, 1] : Fin 2 → Fin S32768x32.rank)
  natLt_1_32 : 1 < 32
  reducesTo_S32768x32_S32_d0 : S32768x32.ReducesTo [0] S32
  h_S_ : 0 < S_.numel
  bcast_S_S32768x512 : S_.BroadcastsInDim S32768x512 (![] : Fin 0 → Fin S32768x512.rank)
  reducesTo_S32768x512_S_d0_1 : S32768x512.ReducesTo [0, 1] S_
  bcast_S_S512x128 : S_.BroadcastsInDim S512x128 (![] : Fin 0 → Fin S512x128.rank)
  reducesTo_S512x128_S_d0_1 : S512x128.ReducesTo [0, 1] S_
  reducesTo_S32768x1_S_d0_1 : S32768x1.ReducesTo [0, 1] S_
  bcast_S_S32 : S_.BroadcastsInDim S32 (![] : Fin 0 → Fin S32.rank)
  reducesTo_S32_S_d0 : S32.ReducesTo [0] S_

variable [Facts]

def fn_where {F : FTy → Type} [FloatOps F] (arg0 : IVec S32768x1 1) (arg1 : IVec S32768x1 32) (arg2 : IVec S32768x1 32) : IVec S32768x1 32 :=
  let v0 : IVec S32768x1 32 := select arg0 arg1 arg2
  v0

def fn_floor_divide {F : FTy → Type} [FloatOps F] (arg0 : IVec S32768x1 32) (arg1 : IVec S_ 32) : IVec S32768x1 32 :=
  let v0 : IVec S_ 32 := id arg1
  let v1 : IVec S32768x1 32 := broadcastInDim S32768x1 ![] bcast_S_S32768x1 v0
  let v2 : IVec S32768x1 32 := Host.divsi arg0 v1
  let v3 : IVec S32768x1 32 := signi arg0
  let v4 : IVec S_ 32 := signi v0
  let v5 : IVec S32768x1 32 := broadcastInDim S32768x1 ![] bcast_S_S32768x1 v4
  let v6 : IVec S32768x1 1 := cmpi .ne v3 v5
  let v7 : IVec S32768x1 32 := broadcastInDim S32768x1 ![] bcast_S_S32768x1 v0
  let v8 : IVec S32768x1 32 := Host.remsi arg0 v7
  let c : IVec S_ 32 := constantI S_ 32 0#32
  let v9 : IVec S32768x1 32 := broadcastInDim S32768x1 ![] bcast_S_S32768x1 c
  let v10 : IVec S32768x1 1 := cmpi .ne v8 v9
  let v11 : IVec S32768x1 1 := andi v6 v10
  let c_0 : IVec S_ 32 := constantI S_ 32 1#32
  let v12 : IVec S32768x1 32 := broadcastInDim S32768x1 ![] bcast_S_S32768x1 c_0
  let v13 : IVec S32768x1 32 := subi v2 v12
  let v14 : IVec S32768x1 32 := fn_where (F := F) v11 v13 v2
  v14

def fn_part1 {F : FTy → Type} [FloatOps F] (main_arg2 : IVec S32768x1 32) (main_v5 : IVec S32 32) (main_v14 : IVec S_ 1) (main_v16 : IVec S32768x1 1) : IVec S_ 1 :=
  let main_c_5 : IVec S_ 32 := constantI S_ 32 128#32
  let main_v17 : IVec S32768x1 32 := broadcastInDim S32768x1 ![] bcast_S_S32768x1 main_c_5
  let main_v18 : IVec S32768x1 1 := cmpi .slt main_arg2 main_v17
  let main_v19 : IVec S32768x1 1 := andi main_v16 main_v18
  let main_c_6 : IVec S_ 1 := constantI S_ 1 1#1
  let main_v20 : IVec S_ 1 := (fun x v => Host.reduce IntOp.andi x v reducesTo_S32768x1_S_d0_1 h_S_) main_v19 main_c_6
  let main_v21 : IVec S_ 1 := andi main_v14 main_v20
  let main_c_7 : IVec S_ 32 := constantI S_ 32 64#32
  let main_v22 : IVec S32 32 := broadcastInDim S32 ![] bcast_S_S32 main_c_7
  let main_v23 : IVec S32 1 := cmpi .sle main_v5 main_v22
  let main_c_8 : IVec S_ 1 := constantI S_ 1 1#1
  let main_v24 : IVec S_ 1 := (fun x v => Host.reduce IntOp.andi x v reducesTo_S32_S_d0 h_S_) main_v23 main_c_8
  let main_v25 : IVec S_ 1 := andi main_v21 main_v24
  main_v25

def fn {F : FTy → Type} [FloatOps F] (main_arg0 : FVec F S32768x512 .bf16) (main_arg1 : FVec F S512x128 .bf16) (main_arg2 : IVec S32768x1 32) (main_arg3 : FVec F S128x512x1024 .bf16) (main_arg4 : FVec F S512x1024 .bf16) : IVec S_ 1 :=
  let main_v0 : IVec S32768x32 32 := iotaInDim S32768x32 32 1
  let main_c : IVec S_ 32 := constantI S_ 32 4#32
  let main_v1 : IVec S32768x1 32 := fn_floor_divide (F := F) main_arg2 main_c
  let main_v2 : IVec S32768x32 32 := broadcastInDim S32768x32 ![0, 1] bcast_S32768x1_S32768x32_0_1 main_v1
  let main_v3 : IVec S32768x32 1 := cmpi .eq main_v2 main_v0
  let main_v4 : IVec S32768x32 32 := (extui 32 · natLt_1_32) main_v3
  let main_c_0 : IVec S_ 32 := constantI S_ 32 0#32
  let main_v5 : IVec S32 32 := (fun x v => Host.reduce IntOp.addi x v reducesTo_S32768x32_S32_d0 h_S_) main_v4 main_c_0
  let main_v6 : FVec F S32768x512 .bf16 := Host.absf main_arg0
  let main_cst : FVec F S_ .bf16 := constant S_ .bf16 0x7F80#16
  let main_v7 : FVec F S32768x512 .bf16 := broadcastInDim S32768x512 ![] bcast_S_S32768x512 main_cst
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : FVec F S512x128 .bf16 := Host.absf main_arg1
  let main_cst_2 : FVec F S_ .bf16 := constant S_ .bf16 0x7F80#16
  let main_v11 : FVec F S512x128 .bf16 := broadcastInDim S512x128 ![] bcast_S_S512x128 main_cst_2
  let main_v12 : IVec S512x128 1 := cmpf .olt main_v10 main_v11
  let main_c_3 : IVec S_ 1 := constantI S_ 1 1#1
  let main_v13 : IVec S_ 1 := (fun x v => Host.reduce IntOp.andi x v reducesTo_S512x128_S_d0_1 h_S_) main_v12 main_c_3
  let main_v14 : IVec S_ 1 := andi main_v9 main_v13
  let main_c_4 : IVec S_ 32 := constantI S_ 32 0#32
  let main_v15 : IVec S32768x1 32 := broadcastInDim S32768x1 ![] bcast_S_S32768x1 main_c_4
  let main_v16 : IVec S32768x1 1 := cmpi .sge main_arg2 main_v15
  fn_part1 (F := F) main_arg2 main_v5 main_v14 main_v16
-- ==== Kernel.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S512x1024 : Shape := ⟨2, ![512, 1024]⟩
abbrev S1024x1024 : Shape := ⟨2, ![1024, 1024]⟩
abbrev S32x64x640 : Shape := ⟨3, ![32, 64, 640]⟩
abbrev S32x64x1024 : Shape := ⟨3, ![32, 64, 1024]⟩
abbrev S32 : Shape := ⟨1, ![32]⟩
abbrev S_ : Shape := ⟨0, ![]⟩
abbrev S1024x128 : Shape := ⟨2, ![1024, 128]⟩
abbrev S1024 : Shape := ⟨1, ![1024]⟩
abbrev S1x1024 : Shape := ⟨2, ![1, 1024]⟩
abbrev S1024x640 : Shape := ⟨2, ![1024, 640]⟩
abbrev S512x640 : Shape := ⟨2, ![512, 640]⟩
abbrev S8x64x640 : Shape := ⟨3, ![8, 64, 640]⟩
abbrev S1 : Shape := ⟨1, ![1]⟩
abbrev S1x64x640 : Shape := ⟨3, ![1, 64, 640]⟩
abbrev S64x640 : Shape := ⟨2, ![64, 640]⟩
abbrev S8x64x512 : Shape := ⟨3, ![8, 64, 512]⟩
abbrev S512x512 : Shape := ⟨2, ![512, 512]⟩
abbrev S8x64x1 : Shape := ⟨3, ![8, 64, 1]⟩
abbrev S512x1 : Shape := ⟨2, ![512, 1]⟩
abbrev S1x512x1024 : Shape := ⟨3, ![1, 512, 1024]⟩
abbrev S8x64x1024 : Shape := ⟨3, ![8, 64, 1024]⟩
abbrev S1x64x1024 : Shape := ⟨3, ![1, 64, 1024]⟩
abbrev S64x1024 : Shape := ⟨2, ![64, 1024]⟩
abbrev S1024x2048 : Shape := ⟨2, ![1024, 2048]⟩
abbrev S2048x1024 : Shape := ⟨2, ![2048, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1024x512, .bf16⟩
  | .hbm, ⟨1, _⟩ => ⟨S512x128, .bf16⟩
  | .hbm, ⟨2, _⟩ => ⟨S1024x1, .i32⟩
  | .hbm, ⟨3, _⟩ => ⟨S4x512x1024, .bf16⟩
  | .hbm, ⟨4, _⟩ => ⟨S512x1024, .bf16⟩
  | .hbm, ⟨5, _⟩ => ⟨S1024x1024, .f32⟩
  | .local _ .vmem, ⟨0, _⟩ => ⟨S1024x512, .bf16⟩
  | .local _ .vmem, ⟨1, _⟩ => ⟨S512x128, .bf16⟩
  | .local _ .vmem, ⟨2, _⟩ => ⟨S1024x1, .i32⟩
  | .local _ .vmem, ⟨3, _⟩ => ⟨S4x512x1024, .bf16⟩
  | .local _ .vmem, ⟨4, _⟩ => ⟨S512x1024, .bf16⟩
  | .local _ .vmem, ⟨5, _⟩ => ⟨S1024x1024, .f32⟩
  | .local _ .vmem, ⟨6, _⟩ => ⟨S32x64x640, .bf16⟩
  | .local _ .vmem, ⟨7, _⟩ => ⟨S32x64x640, .bf16⟩
  | .local _ .vmem, ⟨8, _⟩ => ⟨S32x64x1024, .bf16⟩
  | .local _ .vmem, ⟨9, _⟩ => ⟨S32x64x1024, .bf16⟩
  | _, _ => ⟨S1024x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_167 : BitVec 32 := 0#32
  let v275 : BitVec 32 := Scalar.addi v2 c0_i32_167
  let c32_i32_168 : BitVec 32 := 32#32
  let v276 : BitVec 32 := Scalar.remsi v275 c32_i32_168
  let c1_i32_173 : BitVec 32 := 1#32
  let v277 : BitVec 32 := Scalar.muli v276 c1_i32_173
  let v278 : BitVec 32 := Scalar.addi c0_i32_174 v277
  v278.toNat
def k0_dev33 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_179 : BitVec 32 := 1#32
  let v287 : BitVec 32 := Scalar.addi v2 c1_i32_179
  let c32_i32_180 : BitVec 32 := 32#32
  let v288 : BitVec 32 := Scalar.remsi v287 c32_i32_180
  let c1_i32_185 : BitVec 32 := 1#32
  let v289 : BitVec 32 := Scalar.muli v288 c1_i32_185
  let v290 : BitVec 32 := Scalar.addi c0_i32_186 v289
  v290.toNat
def k0_dev34 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_191 : BitVec 32 := 2#32
  let v299 : BitVec 32 := Scalar.addi v2 c2_i32_191
  let c32_i32_192 : BitVec 32 := 32#32
  let v300 : BitVec 32 := Scalar.remsi v299 c32_i32_192
  let c1_i32_197 : BitVec 32 := 1#32
  let v301 : BitVec 32 := Scalar.muli v300 c1_i32_197
  let v302 : BitVec 32 := Scalar.addi c0_i32_198 v301
  v302.toNat
def k0_dev35 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_203 : BitVec 32 := 3#32
  let v311 : BitVec 32 := Scalar.addi v2 c3_i32_203
  let c32_i32_204 : BitVec 32 := 32#32
  let v312 : BitVec 32 := Scalar.remsi v311 c32_i32_204
  let c1_i32_209 : BitVec 32 := 1#32
  let v313 : BitVec 32 := Scalar.muli v312 c1_i32_209
  let v314 : BitVec 32 := Scalar.addi c0_i32_210 v313
  v314.toNat
def k0_dev36 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_215 : BitVec 32 := 4#32
  let v323 : BitVec 32 := Scalar.addi v2 c4_i32_215
  let c32_i32_216 : BitVec 32 := 32#32
  let v324 : BitVec 32 := Scalar.remsi v323 c32_i32_216
  let c1_i32_221 : BitVec 32 := 1#32
  let v325 : BitVec 32 := Scalar.muli v324 c1_i32_221
  let v326 : BitVec 32 := Scalar.addi c0_i32_222 v325
  v326.toNat
def k0_dev37 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_227 : BitVec 32 := 5#32
  let v335 : BitVec 32 := Scalar.addi v2 c5_i32_227
  let c32_i32_228 : BitVec 32 := 32#32
  let v336 : BitVec 32 := Scalar.remsi v335 c32_i32_228
  let c1_i32_233 : BitVec 32 := 1#32
  let v337 : BitVec 32 := Scalar.muli v336 c1_i32_233
  let v338 : BitVec 32 := Scalar.addi c0_i32_234 v337
  v338.toNat
def k0_dev38 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_239 : BitVec 32 := 6#32
  let v347 : BitVec 32 := Scalar.addi v2 c6_i32_239
  let c32_i32_240 : BitVec 32 := 32#32
  let v348 : BitVec 32 := Scalar.remsi v347 c32_i32_240
  let c1_i32_245 : BitVec 32 := 1#32
  let v349 : BitVec 32 := Scalar.muli v348 c1_i32_245
  let v350 : BitVec 32 := Scalar.addi c0_i32_246 v349
  v350.toNat
def k0_dev39 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_251 : BitVec 32 := 7#32
  let v359 : BitVec 32 := Scalar.addi v2 c7_i32_251
  let c32_i32_252 : BitVec 32 := 32#32
  let v360 : BitVec 32 := Scalar.remsi v359 c32_i32_252
  let c1_i32_257 : BitVec 32 := 1#32
  let v361 : BitVec 32 := Scalar.muli v360 c1_i32_257
  let v362 : BitVec 32 := Scalar.addi c0_i32_258 v361
  v362.toNat
def k0_dev40 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_266 : BitVec 32 := 8#32
  let v385 : BitVec 32 := Scalar.addi v2 c8_i32_266
  let c32_i32_267 : BitVec 32 := 32#32
  let v386 : BitVec 32 := Scalar.remsi v385 c32_i32_267
  let c1_i32_272 : BitVec 32 := 1#32
  let v387 : BitVec 32 := Scalar.muli v386 c1_i32_272
  let v388 : BitVec 32 := Scalar.addi c0_i32_273 v387
  v388.toNat
def k0_dev41 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_278 : BitVec 32 := 9#32
  let v397 : BitVec 32 := Scalar.addi v2 c9_i32_278
  let c32_i32_279 : BitVec 32 := 32#32
  let v398 : BitVec 32 := Scalar.remsi v397 c32_i32_279
  let c1_i32_284 : BitVec 32 := 1#32
  let v399 : BitVec 32 := Scalar.muli v398 c1_i32_284
  let v400 : BitVec 32 := Scalar.addi c0_i32_285 v399
  v400.toNat
def k0_dev42 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_290 : BitVec 32 := 10#32
  let v409 : BitVec 32 := Scalar.addi v2 c10_i32_290
  let c32_i32_291 : BitVec 32 := 32#32
  let v410 : BitVec 32 := Scalar.remsi v409 c32_i32_291
  let c1_i32_296 : BitVec 32 := 1#32
  let v411 : BitVec 32 := Scalar.muli v410 c1_i32_296
  let v412 : BitVec 32 := Scalar.addi c0_i32_297 v411
  v412.toNat
def k0_dev43 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_302 : BitVec 32 := 11#32
  let v421 : BitVec 32 := Scalar.addi v2 c11_i32_302
  let c32_i32_303 : BitVec 32 := 32#32
  let v422 : BitVec 32 := Scalar.remsi v421 c32_i32_303
  let c1_i32_308 : BitVec 32 := 1#32
  let v423 : BitVec 32 := Scalar.muli v422 c1_i32_308
  let v424 : BitVec 32 := Scalar.addi c0_i32_309 v423
  v424.toNat
def k0_dev44 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_314 : BitVec 32 := 12#32
  let v433 : BitVec 32 := Scalar.addi v2 c12_i32_314
  let c32_i32_315 : BitVec 32 := 32#32
  let v434 : BitVec 32 := Scalar.remsi v433 c32_i32_315
  let c1_i32_320 : BitVec 32 := 1#32
  let v435 : BitVec 32 := Scalar.muli v434 c1_i32_320
  let v436 : BitVec 32 := Scalar.addi c0_i32_321 v435
  v436.toNat
def k0_dev45 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_326 : BitVec 32 := 13#32
  let v445 : BitVec 32 := Scalar.addi v2 c13_i32_326
  let c32_i32_327 : BitVec 32 := 32#32
  let v446 : BitVec 32 := Scalar.remsi v445 c32_i32_327
  let c1_i32_332 : BitVec 32 := 1#32
  let v447 : BitVec 32 := Scalar.muli v446 c1_i32_332
  let v448 : BitVec 32 := Scalar.addi c0_i32_333 v447
  v448.toNat
def k0_dev46 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_338 : BitVec 32 := 14#32
  let v457 : BitVec 32 := Scalar.addi v2 c14_i32_338
  let c32_i32_339 : BitVec 32 := 32#32
  let v458 : BitVec 32 := Scalar.remsi v457 c32_i32_339
  let c1_i32_344 : BitVec 32 := 1#32
  let v459 : BitVec 32 := Scalar.muli v458 c1_i32_344
  let v460 : BitVec 32 := Scalar.addi c0_i32_345 v459
  v460.toNat
def k0_dev47 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_350 : BitVec 32 := 15#32
  let v469 : BitVec 32 := Scalar.addi v2 c15_i32_350
  let c32_i32_351 : BitVec 32 := 32#32
  let v470 : BitVec 32 := Scalar.remsi v469 c32_i32_351
  let c1_i32_356 : BitVec 32 := 1#32
  let v471 : BitVec 32 := Scalar.muli v470 c1_i32_356
  let v472 : BitVec 32 := Scalar.addi c0_i32_357 v471
  v472.toNat
def k0_dev48 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_365 : BitVec 32 := 16#32
  let v495 : BitVec 32 := Scalar.addi v2 c16_i32_365
  let c32_i32_366 : BitVec 32 := 32#32
  let v496 : BitVec 32 := Scalar.remsi v495 c32_i32_366
  let c1_i32_371 : BitVec 32 := 1#32
  let v497 : BitVec 32 := Scalar.muli v496 c1_i32_371
  let v498 : BitVec 32 := Scalar.addi c0_i32_372 v497
  v498.toNat
def k0_dev49 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_377 : BitVec 32 := 17#32
  let v507 : BitVec 32 := Scalar.addi v2 c17_i32_377
  let c32_i32_378 : BitVec 32 := 32#32
  let v508 : BitVec 32 := Scalar.remsi v507 c32_i32_378
  let c1_i32_383 : BitVec 32 := 1#32
  let v509 : BitVec 32 := Scalar.muli v508 c1_i32_383
  let v510 : BitVec 32 := Scalar.addi c0_i32_384 v509
  v510.toNat
def k0_dev50 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_389 : BitVec 32 := 18#32
  let v519 : BitVec 32 := Scalar.addi v2 c18_i32_389
  let c32_i32_390 : BitVec 32 := 32#32
  let v520 : BitVec 32 := Scalar.remsi v519 c32_i32_390
  let c1_i32_395 : BitVec 32 := 1#32
  let v521 : BitVec 32 := Scalar.muli v520 c1_i32_395
  let v522 : BitVec 32 := Scalar.addi c0_i32_396 v521
  v522.toNat
def k0_dev51 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_401 : BitVec 32 := 19#32
  let v531 : BitVec 32 := Scalar.addi v2 c19_i32_401
  let c32_i32_402 : BitVec 32 := 32#32
  let v532 : BitVec 32 := Scalar.remsi v531 c32_i32_402
  let c1_i32_407 : BitVec 32 := 1#32
  let v533 : BitVec 32 := Scalar.muli v532 c1_i32_407
  let v534 : BitVec 32 := Scalar.addi c0_i32_408 v533
  v534.toNat
def k0_dev52 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_413 : BitVec 32 := 20#32
  let v543 : BitVec 32 := Scalar.addi v2 c20_i32_413
  let c32_i32_414 : BitVec 32 := 32#32
  let v544 : BitVec 32 := Scalar.remsi v543 c32_i32_414
  let c1_i32_419 : BitVec 32 := 1#32
  let v545 : BitVec 32 := Scalar.muli v544 c1_i32_419
  let v546 : BitVec 32 := Scalar.addi c0_i32_420 v545
  v546.toNat
def k0_dev53 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_425 : BitVec 32 := 21#32
  let v555 : BitVec 32 := Scalar.addi v2 c21_i32_425
  let c32_i32_426 : BitVec 32 := 32#32
  let v556 : BitVec 32 := Scalar.remsi v555 c32_i32_426
  let c1_i32_431 : BitVec 32 := 1#32
  let v557 : BitVec 32 := Scalar.muli v556 c1_i32_431
  let v558 : BitVec 32 := Scalar.addi c0_i32_432 v557
  v558.toNat
def k0_dev54 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_437 : BitVec 32 := 22#32
  let v567 : BitVec 32 := Scalar.addi v2 c22_i32_437
  let c32_i32_438 : BitVec 32 := 32#32
  let v568 : BitVec 32 := Scalar.remsi v567 c32_i32_438
  let c1_i32_443 : BitVec 32 := 1#32
  let v569 : BitVec 32 := Scalar.muli v568 c1_i32_443
  let v570 : BitVec 32 := Scalar.addi c0_i32_444 v569
  v570.toNat
def k0_dev55 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_449 : BitVec 32 := 23#32
  let v579 : BitVec 32 := Scalar.addi v2 c23_i32_449
  let c32_i32_450 : BitVec 32 := 32#32
  let v580 : BitVec 32 := Scalar.remsi v579 c32_i32_450
  let c1_i32_455 : BitVec 32 := 1#32
  let v581 : BitVec 32 := Scalar.muli v580 c1_i32_455
  let v582 : BitVec 32 := Scalar.addi c0_i32_456 v581
  v582.toNat
def k0_dev56 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_464 : BitVec 32 := 24#32
  let v605 : BitVec 32 := Scalar.addi v2 c24_i32_464
  let c32_i32_465 : BitVec 32 := 32#32
  let v606 : BitVec 32 := Scalar.remsi v605 c32_i32_465
  let c1_i32_470 : BitVec 32 := 1#32
  let v607 : BitVec 32 := Scalar.muli v606 c1_i32_470
  let v608 : BitVec 32 := Scalar.addi c0_i32_471 v607
  v608.toNat
def k0_dev57 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_476 : BitVec 32 := 25#32
  let v617 : BitVec 32 := Scalar.addi v2 c25_i32_476
  let c32_i32_477 : BitVec 32 := 32#32
  let v618 : BitVec 32 := Scalar.remsi v617 c32_i32_477
  let c1_i32_482 : BitVec 32 := 1#32
  let v619 : BitVec 32 := Scalar.muli v618 c1_i32_482
  let v620 : BitVec 32 := Scalar.addi c0_i32_483 v619
  v620.toNat
def k0_dev58 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_488 : BitVec 32 := 26#32
  let v629 : BitVec 32 := Scalar.addi v2 c26_i32_488
  let c32_i32_489 : BitVec 32 := 32#32
  let v630 : BitVec 32 := Scalar.remsi v629 c32_i32_489
  let c1_i32_494 : BitVec 32 := 1#32
  let v631 : BitVec 32 := Scalar.muli v630 c1_i32_494
  let v632 : BitVec 32 := Scalar.addi c0_i32_495 v631
  v632.toNat
def k0_dev59 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_500 : BitVec 32 := 27#32
  let v641 : BitVec 32 := Scalar.addi v2 c27_i32_500
  let c32_i32_501 : BitVec 32 := 32#32
  let v642 : BitVec 32 := Scalar.remsi v641 c32_i32_501
  let c1_i32_506 : BitVec 32 := 1#32
  let v643 : BitVec 32 := Scalar.muli v642 c1_i32_506
  let v644 : BitVec 32 := Scalar.addi c0_i32_507 v643
  v644.toNat
def k0_dev60 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_512 : BitVec 32 := 28#32
  let v653 : BitVec 32 := Scalar.addi v2 c28_i32_512
  let c32_i32_513 : BitVec 32 := 32#32
  let v654 : BitVec 32 := Scalar.remsi v653 c32_i32_513
  let c1_i32_518 : BitVec 32 := 1#32
  let v655 : BitVec 32 := Scalar.muli v654 c1_i32_518
  let v656 : BitVec 32 := Scalar.addi c0_i32_519 v655
  v656.toNat
def k0_dev61 (d0 : Dev nD) : Nat :=
  let c0_i32_531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_524 : BitVec 32 := 29#32
  let v665 : BitVec 32 := Scalar.addi v2 c29_i32_524
  let c32_i32_525 : BitVec 32 := 32#32
  let v666 : BitVec 32 := Scalar.remsi v665 c32_i32_525
  let c1_i32_530 : BitVec 32 := 1#32
  let v667 : BitVec 32 := Scalar.muli v666 c1_i32_530
  let v668 : BitVec 32 := Scalar.addi c0_i32_531 v667
  v668.toNat
def k0_dev62 (d0 : Dev nD) : Nat :=
  let c0_i32_543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_536 : BitVec 32 := 30#32
  let v677 : BitVec 32 := Scalar.addi v2 c30_i32_536
  let c32_i32_537 : BitVec 32 := 32#32
  let v678 : BitVec 32 := Scalar.remsi v677 c32_i32_537
  let c1_i32_542 : BitVec 32 := 1#32
  let v679 : BitVec 32 := Scalar.muli v678 c1_i32_542
  let v680 : BitVec 32 := Scalar.addi c0_i32_543 v679
  v680.toNat
def k0_dev63 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_548 : BitVec 32 := 31#32
  let v689 : BitVec 32 := Scalar.addi v2 c31_i32_548
  let c32_i32_549 : BitVec 32 := 32#32
  let v690 : BitVec 32 := Scalar.remsi v689 c32_i32_549
  let c1_i32_554 : BitVec 32 := 1#32
  let v691 : BitVec 32 := Scalar.muli v690 c1_i32_554
  let v692 : BitVec 32 := Scalar.addi c0_i32_555 v691
  v692.toNat
def k0_dev64 (d0 : Dev nD) : Nat :=
  let c0_i32_753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_745 : BitVec 32 := 0#32
  let v868 : BitVec 32 := Scalar.subi v2 c0_i32_745
  let c32_i32_746 : BitVec 32 := 32#32
  let v869 : BitVec 32 := Scalar.addi v868 c32_i32_746
  let c32_i32_747 : BitVec 32 := 32#32
  let v870 : BitVec 32 := Scalar.remsi v869 c32_i32_747
  let c1_i32_752 : BitVec 32 := 1#32
  let v871 : BitVec 32 := Scalar.muli v870 c1_i32_752
  let v872 : BitVec 32 := Scalar.addi c0_i32_753 v871
  v872.toNat
def k0_dev65 (d0 : Dev nD) : Nat :=
  let c0_i32_766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_758 : BitVec 32 := 1#32
  let v881 : BitVec 32 := Scalar.subi v2 c1_i32_758
  let c32_i32_759 : BitVec 32 := 32#32
  let v882 : BitVec 32 := Scalar.addi v881 c32_i32_759
  let c32_i32_760 : BitVec 32 := 32#32
  let v883 : BitVec 32 := Scalar.remsi v882 c32_i32_760
  let c1_i32_765 : BitVec 32 := 1#32
  let v884 : BitVec 32 := Scalar.muli v883 c1_i32_765
  let v885 : BitVec 32 := Scalar.addi c0_i32_766 v884
  v885.toNat
def k0_dev66 (d0 : Dev nD) : Nat :=
  let c0_i32_779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_771 : BitVec 32 := 2#32
  let v894 : BitVec 32 := Scalar.subi v2 c2_i32_771
  let c32_i32_772 : BitVec 32 := 32#32
  let v895 : BitVec 32 := Scalar.addi v894 c32_i32_772
  let c32_i32_773 : BitVec 32 := 32#32
  let v896 : BitVec 32 := Scalar.remsi v895 c32_i32_773
  let c1_i32_778 : BitVec 32 := 1#32
  let v897 : BitVec 32 := Scalar.muli v896 c1_i32_778
  let v898 : BitVec 32 := Scalar.addi c0_i32_779 v897
  v898.toNat
def k0_dev67 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_784 : BitVec 32 := 3#32
  let v907 : BitVec 32 := Scalar.subi v2 c3_i32_784
  let c32_i32_785 : BitVec 32 := 32#32
  let v908 : BitVec 32 := Scalar.addi v907 c32_i32_785
  let c32_i32_786 : BitVec 32 := 32#32
  let v909 : BitVec 32 := Scalar.remsi v908 c32_i32_786
  let c1_i32_791 : BitVec 32 := 1#32
  let v910 : BitVec 32 := Scalar.muli v909 c1_i32_791
  let v911 : BitVec 32 := Scalar.addi c0_i32_792 v910
  v911.toNat
def k0_dev68 (d0 : Dev nD) : Nat :=
  let c0_i32_805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_797 : BitVec 32 := 4#32
  let v920 : BitVec 32 := Scalar.subi v2 c4_i32_797
  let c32_i32_798 : BitVec 32 := 32#32
  let v921 : BitVec 32 := Scalar.addi v920 c32_i32_798
  let c32_i32_799 : BitVec 32 := 32#32
  let v922 : BitVec 32 := Scalar.remsi v921 c32_i32_799
  let c1_i32_804 : BitVec 32 := 1#32
  let v923 : BitVec 32 := Scalar.muli v922 c1_i32_804
  let v924 : BitVec 32 := Scalar.addi c0_i32_805 v923
  v924.toNat
def k0_dev69 (d0 : Dev nD) : Nat :=
  let c0_i32_818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_810 : BitVec 32 := 5#32
  let v933 : BitVec 32 := Scalar.subi v2 c5_i32_810
  let c32_i32_811 : BitVec 32 := 32#32
  let v934 : BitVec 32 := Scalar.addi v933 c32_i32_811
  let c32_i32_812 : BitVec 32 := 32#32
  let v935 : BitVec 32 := Scalar.remsi v934 c32_i32_812
  let c1_i32_817 : BitVec 32 := 1#32
  let v936 : BitVec 32 := Scalar.muli v935 c1_i32_817
  let v937 : BitVec 32 := Scalar.addi c0_i32_818 v936
  v937.toNat
def k0_dev70 (d0 : Dev nD) : Nat :=
  let c0_i32_831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_823 : BitVec 32 := 6#32
  let v946 : BitVec 32 := Scalar.subi v2 c6_i32_823
  let c32_i32_824 : BitVec 32 := 32#32
  let v947 : BitVec 32 := Scalar.addi v946 c32_i32_824
  let c32_i32_825 : BitVec 32 := 32#32
  let v948 : BitVec 32 := Scalar.remsi v947 c32_i32_825
  let c1_i32_830 : BitVec 32 := 1#32
  let v949 : BitVec 32 := Scalar.muli v948 c1_i32_830
  let v950 : BitVec 32 := Scalar.addi c0_i32_831 v949
  v950.toNat
def k0_dev71 (d0 : Dev nD) : Nat :=
  let c0_i32_844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_836 : BitVec 32 := 7#32
  let v959 : BitVec 32 := Scalar.subi v2 c7_i32_836
  let c32_i32_837 : BitVec 32 := 32#32
  let v960 : BitVec 32 := Scalar.addi v959 c32_i32_837
  let c32_i32_838 : BitVec 32 := 32#32
  let v961 : BitVec 32 := Scalar.remsi v960 c32_i32_838
  let c1_i32_843 : BitVec 32 := 1#32
  let v962 : BitVec 32 := Scalar.muli v961 c1_i32_843
  let v963 : BitVec 32 := Scalar.addi c0_i32_844 v962
  v963.toNat
def k0_dev72 (d0 : Dev nD) : Nat :=
  let c0_i32_1040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1032 : BitVec 32 := 8#32
  let v1135 : BitVec 32 := Scalar.subi v2 c8_i32_1032
  let c32_i32_1033 : BitVec 32 := 32#32
  let v1136 : BitVec 32 := Scalar.addi v1135 c32_i32_1033
  let c32_i32_1034 : BitVec 32 := 32#32
  let v1137 : BitVec 32 := Scalar.remsi v1136 c32_i32_1034
  let c1_i32_1039 : BitVec 32 := 1#32
  let v1138 : BitVec 32 := Scalar.muli v1137 c1_i32_1039
  let v1139 : BitVec 32 := Scalar.addi c0_i32_1040 v1138
  v1139.toNat
def k0_dev73 (d0 : Dev nD) : Nat :=
  let c0_i32_1053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1045 : BitVec 32 := 9#32
  let v1148 : BitVec 32 := Scalar.subi v2 c9_i32_1045
  let c32_i32_1046 : BitVec 32 := 32#32
  let v1149 : BitVec 32 := Scalar.addi v1148 c32_i32_1046
  let c32_i32_1047 : BitVec 32 := 32#32
  let v1150 : BitVec 32 := Scalar.remsi v1149 c32_i32_1047
  let c1_i32_1052 : BitVec 32 := 1#32
  let v1151 : BitVec 32 := Scalar.muli v1150 c1_i32_1052
  let v1152 : BitVec 32 := Scalar.addi c0_i32_1053 v1151
  v1152.toNat
def k0_dev74 (d0 : Dev nD) : Nat :=
  let c0_i32_1066 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1058 : BitVec 32 := 10#32
  let v1161 : BitVec 32 := Scalar.subi v2 c10_i32_1058
  let c32_i32_1059 : BitVec 32 := 32#32
  let v1162 : BitVec 32 := Scalar.addi v1161 c32_i32_1059
  let c32_i32_1060 : BitVec 32 := 32#32
  let v1163 : BitVec 32 := Scalar.remsi v1162 c32_i32_1060
  let c1_i32_1065 : BitVec 32 := 1#32
  let v1164 : BitVec 32 := Scalar.muli v1163 c1_i32_1065
  let v1165 : BitVec 32 := Scalar.addi c0_i32_1066 v1164
  v1165.toNat
def k0_dev75 (d0 : Dev nD) : Nat :=
  let c0_i32_1079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1071 : BitVec 32 := 11#32
  let v1174 : BitVec 32 := Scalar.subi v2 c11_i32_1071
  let c32_i32_1072 : BitVec 32 := 32#32
  let v1175 : BitVec 32 := Scalar.addi v1174 c32_i32_1072
  let c32_i32_1073 : BitVec 32 := 32#32
  let v1176 : BitVec 32 := Scalar.remsi v1175 c32_i32_1073
  let c1_i32_1078 : BitVec 32 := 1#32
  let v1177 : BitVec 32 := Scalar.muli v1176 c1_i32_1078
  let v1178 : BitVec 32 := Scalar.addi c0_i32_1079 v1177
  v1178.toNat
def k0_dev76 (d0 : Dev nD) : Nat :=
  let c0_i32_1092 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1084 : BitVec 32 := 12#32
  let v1187 : BitVec 32 := Scalar.subi v2 c12_i32_1084
  let c32_i32_1085 : BitVec 32 := 32#32
  let v1188 : BitVec 32 := Scalar.addi v1187 c32_i32_1085
  let c32_i32_1086 : BitVec 32 := 32#32
  let v1189 : BitVec 32 := Scalar.remsi v1188 c32_i32_1086
  let c1_i32_1091 : BitVec 32 := 1#32
  let v1190 : BitVec 32 := Scalar.muli v1189 c1_i32_1091
  let v1191 : BitVec 32 := Scalar.addi c0_i32_1092 v1190
  v1191.toNat
def k0_dev77 (d0 : Dev nD) : Nat :=
  let c0_i32_1105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1097 : BitVec 32 := 13#32
  let v1200 : BitVec 32 := Scalar.subi v2 c13_i32_1097
  let c32_i32_1098 : BitVec 32 := 32#32
  let v1201 : BitVec 32 := Scalar.addi v1200 c32_i32_1098
  let c32_i32_1099 : BitVec 32 := 32#32
  let v1202 : BitVec 32 := Scalar.remsi v1201 c32_i32_1099
  let c1_i32_1104 : BitVec 32 := 1#32
  let v1203 : BitVec 32 := Scalar.muli v1202 c1_i32_1104
  let v1204 : BitVec 32 := Scalar.addi c0_i32_1105 v1203
  v1204.toNat
def k0_dev78 (d0 : Dev nD) : Nat :=
  let c0_i32_1118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1110 : BitVec 32 := 14#32
  let v1213 : BitVec 32 := Scalar.subi v2 c14_i32_1110
  let c32_i32_1111 : BitVec 32 := 32#32
  let v1214 : BitVec 32 := Scalar.addi v1213 c32_i32_1111
  let c32_i32_1112 : BitVec 32 := 32#32
  let v1215 : BitVec 32 := Scalar.remsi v1214 c32_i32_1112
  let c1_i32_1117 : BitVec 32 := 1#32
  let v1216 : BitVec 32 := Scalar.muli v1215 c1_i32_1117
  let v1217 : BitVec 32 := Scalar.addi c0_i32_1118 v1216
  v1217.toNat
def k0_dev79 (d0 : Dev nD) : Nat :=
  let c0_i32_1131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1123 : BitVec 32 := 15#32
  let v1226 : BitVec 32 := Scalar.subi v2 c15_i32_1123
  let c32_i32_1124 : BitVec 32 := 32#32
  let v1227 : BitVec 32 := Scalar.addi v1226 c32_i32_1124
  let c32_i32_1125 : BitVec 32 := 32#32
  let v1228 : BitVec 32 := Scalar.remsi v1227 c32_i32_1125
  let c1_i32_1130 : BitVec 32 := 1#32
  let v1229 : BitVec 32 := Scalar.muli v1228 c1_i32_1130
  let v1230 : BitVec 32 := Scalar.addi c0_i32_1131 v1229
  v1230.toNat
def k0_dev80 (d0 : Dev nD) : Nat :=
  let c0_i32_1327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1319 : BitVec 32 := 16#32
  let v1402 : BitVec 32 := Scalar.subi v2 c16_i32_1319
  let c32_i32_1320 : BitVec 32 := 32#32
  let v1403 : BitVec 32 := Scalar.addi v1402 c32_i32_1320
  let c32_i32_1321 : BitVec 32 := 32#32
  let v1404 : BitVec 32 := Scalar.remsi v1403 c32_i32_1321
  let c1_i32_1326 : BitVec 32 := 1#32
  let v1405 : BitVec 32 := Scalar.muli v1404 c1_i32_1326
  let v1406 : BitVec 32 := Scalar.addi c0_i32_1327 v1405
  v1406.toNat
def k0_dev81 (d0 : Dev nD) : Nat :=
  let c0_i32_1340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1332 : BitVec 32 := 17#32
  let v1415 : BitVec 32 := Scalar.subi v2 c17_i32_1332
  let c32_i32_1333 : BitVec 32 := 32#32
  let v1416 : BitVec 32 := Scalar.addi v1415 c32_i32_1333
  let c32_i32_1334 : BitVec 32 := 32#32
  let v1417 : BitVec 32 := Scalar.remsi v1416 c32_i32_1334
  let c1_i32_1339 : BitVec 32 := 1#32
  let v1418 : BitVec 32 := Scalar.muli v1417 c1_i32_1339
  let v1419 : BitVec 32 := Scalar.addi c0_i32_1340 v1418
  v1419.toNat
def k0_dev82 (d0 : Dev nD) : Nat :=
  let c0_i32_1353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1345 : BitVec 32 := 18#32
  let v1428 : BitVec 32 := Scalar.subi v2 c18_i32_1345
  let c32_i32_1346 : BitVec 32 := 32#32
  let v1429 : BitVec 32 := Scalar.addi v1428 c32_i32_1346
  let c32_i32_1347 : BitVec 32 := 32#32
  let v1430 : BitVec 32 := Scalar.remsi v1429 c32_i32_1347
  let c1_i32_1352 : BitVec 32 := 1#32
  let v1431 : BitVec 32 := Scalar.muli v1430 c1_i32_1352
  let v1432 : BitVec 32 := Scalar.addi c0_i32_1353 v1431
  v1432.toNat
def k0_dev83 (d0 : Dev nD) : Nat :=
  let c0_i32_1366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1358 : BitVec 32 := 19#32
  let v1441 : BitVec 32 := Scalar.subi v2 c19_i32_1358
  let c32_i32_1359 : BitVec 32 := 32#32
  let v1442 : BitVec 32 := Scalar.addi v1441 c32_i32_1359
  let c32_i32_1360 : BitVec 32 := 32#32
  let v1443 : BitVec 32 := Scalar.remsi v1442 c32_i32_1360
  let c1_i32_1365 : BitVec 32 := 1#32
  let v1444 : BitVec 32 := Scalar.muli v1443 c1_i32_1365
  let v1445 : BitVec 32 := Scalar.addi c0_i32_1366 v1444
  v1445.toNat
def k0_dev84 (d0 : Dev nD) : Nat :=
  let c0_i32_1379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1371 : BitVec 32 := 20#32
  let v1454 : BitVec 32 := Scalar.subi v2 c20_i32_1371
  let c32_i32_1372 : BitVec 32 := 32#32
  let v1455 : BitVec 32 := Scalar.addi v1454 c32_i32_1372
  let c32_i32_1373 : BitVec 32 := 32#32
  let v1456 : BitVec 32 := Scalar.remsi v1455 c32_i32_1373
  let c1_i32_1378 : BitVec 32 := 1#32
  let v1457 : BitVec 32 := Scalar.muli v1456 c1_i32_1378
  let v1458 : BitVec 32 := Scalar.addi c0_i32_1379 v1457
  v1458.toNat
def k0_dev85 (d0 : Dev nD) : Nat :=
  let c0_i32_1392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1384 : BitVec 32 := 21#32
  let v1467 : BitVec 32 := Scalar.subi v2 c21_i32_1384
  let c32_i32_1385 : BitVec 32 := 32#32
  let v1468 : BitVec 32 := Scalar.addi v1467 c32_i32_1385
  let c32_i32_1386 : BitVec 32 := 32#32
  let v1469 : BitVec 32 := Scalar.remsi v1468 c32_i32_1386
  let c1_i32_1391 : BitVec 32 := 1#32
  let v1470 : BitVec 32 := Scalar.muli v1469 c1_i32_1391
  let v1471 : BitVec 32 := Scalar.addi c0_i32_1392 v1470
  v1471.toNat
def k0_dev86 (d0 : Dev nD) : Nat :=
  let c0_i32_1405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1397 : BitVec 32 := 22#32
  let v1480 : BitVec 32 := Scalar.subi v2 c22_i32_1397
  let c32_i32_1398 : BitVec 32 := 32#32
  let v1481 : BitVec 32 := Scalar.addi v1480 c32_i32_1398
  let c32_i32_1399 : BitVec 32 := 32#32
  let v1482 : BitVec 32 := Scalar.remsi v1481 c32_i32_1399
  let c1_i32_1404 : BitVec 32 := 1#32
  let v1483 : BitVec 32 := Scalar.muli v1482 c1_i32_1404
  let v1484 : BitVec 32 := Scalar.addi c0_i32_1405 v1483
  v1484.toNat
def k0_dev87 (d0 : Dev nD) : Nat :=
  let c0_i32_1418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1410 : BitVec 32 := 23#32
  let v1493 : BitVec 32 := Scalar.subi v2 c23_i32_1410
  let c32_i32_1411 : BitVec 32 := 32#32
  let v1494 : BitVec 32 := Scalar.addi v1493 c32_i32_1411
  let c32_i32_1412 : BitVec 32 := 32#32
  let v1495 : BitVec 32 := Scalar.remsi v1494 c32_i32_1412
  let c1_i32_1417 : BitVec 32 := 1#32
  let v1496 : BitVec 32 := Scalar.muli v1495 c1_i32_1417
  let v1497 : BitVec 32 := Scalar.addi c0_i32_1418 v1496
  v1497.toNat
def k0_dev88 (d0 : Dev nD) : Nat :=
  let c0_i32_1614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1606 : BitVec 32 := 24#32
  let v1669 : BitVec 32 := Scalar.subi v2 c24_i32_1606
  let c32_i32_1607 : BitVec 32 := 32#32
  let v1670 : BitVec 32 := Scalar.addi v1669 c32_i32_1607
  let c32_i32_1608 : BitVec 32 := 32#32
  let v1671 : BitVec 32 := Scalar.remsi v1670 c32_i32_1608
  let c1_i32_1613 : BitVec 32 := 1#32
  let v1672 : BitVec 32 := Scalar.muli v1671 c1_i32_1613
  let v1673 : BitVec 32 := Scalar.addi c0_i32_1614 v1672
  v1673.toNat
def k0_dev89 (d0 : Dev nD) : Nat :=
  let c0_i32_1627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1619 : BitVec 32 := 25#32
  let v1682 : BitVec 32 := Scalar.subi v2 c25_i32_1619
  let c32_i32_1620 : BitVec 32 := 32#32
  let v1683 : BitVec 32 := Scalar.addi v1682 c32_i32_1620
  let c32_i32_1621 : BitVec 32 := 32#32
  let v1684 : BitVec 32 := Scalar.remsi v1683 c32_i32_1621
  let c1_i32_1626 : BitVec 32 := 1#32
  let v1685 : BitVec 32 := Scalar.muli v1684 c1_i32_1626
  let v1686 : BitVec 32 := Scalar.addi c0_i32_1627 v1685
  v1686.toNat
def k0_dev90 (d0 : Dev nD) : Nat :=
  let c0_i32_1640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1632 : BitVec 32 := 26#32
  let v1695 : BitVec 32 := Scalar.subi v2 c26_i32_1632
  let c32_i32_1633 : BitVec 32 := 32#32
  let v1696 : BitVec 32 := Scalar.addi v1695 c32_i32_1633
  let c32_i32_1634 : BitVec 32 := 32#32
  let v1697 : BitVec 32 := Scalar.remsi v1696 c32_i32_1634
  let c1_i32_1639 : BitVec 32 := 1#32
  let v1698 : BitVec 32 := Scalar.muli v1697 c1_i32_1639
  let v1699 : BitVec 32 := Scalar.addi c0_i32_1640 v1698
  v1699.toNat
def k0_dev91 (d0 : Dev nD) : Nat :=
  let c0_i32_1653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1645 : BitVec 32 := 27#32
  let v1708 : BitVec 32 := Scalar.subi v2 c27_i32_1645
  let c32_i32_1646 : BitVec 32 := 32#32
  let v1709 : BitVec 32 := Scalar.addi v1708 c32_i32_1646
  let c32_i32_1647 : BitVec 32 := 32#32
  let v1710 : BitVec 32 := Scalar.remsi v1709 c32_i32_1647
  let c1_i32_1652 : BitVec 32 := 1#32
  let v1711 : BitVec 32 := Scalar.muli v1710 c1_i32_1652
  let v1712 : BitVec 32 := Scalar.addi c0_i32_1653 v1711
  v1712.toNat
def k0_dev92 (d0 : Dev nD) : Nat :=
  let c0_i32_1666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1658 : BitVec 32 := 28#32
  let v1721 : BitVec 32 := Scalar.subi v2 c28_i32_1658
  let c32_i32_1659 : BitVec 32 := 32#32
  let v1722 : BitVec 32 := Scalar.addi v1721 c32_i32_1659
  let c32_i32_1660 : BitVec 32 := 32#32
  let v1723 : BitVec 32 := Scalar.remsi v1722 c32_i32_1660
  let c1_i32_1665 : BitVec 32 := 1#32
  let v1724 : BitVec 32 := Scalar.muli v1723 c1_i32_1665
  let v1725 : BitVec 32 := Scalar.addi c0_i32_1666 v1724
  v1725.toNat
def k0_dev93 (d0 : Dev nD) : Nat :=
  let c0_i32_1679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1671 : BitVec 32 := 29#32
  let v1734 : BitVec 32 := Scalar.subi v2 c29_i32_1671
  let c32_i32_1672 : BitVec 32 := 32#32
  let v1735 : BitVec 32 := Scalar.addi v1734 c32_i32_1672
  let c32_i32_1673 : BitVec 32 := 32#32
  let v1736 : BitVec 32 := Scalar.remsi v1735 c32_i32_1673
  let c1_i32_1678 : BitVec 32 := 1#32
  let v1737 : BitVec 32 := Scalar.muli v1736 c1_i32_1678
  let v1738 : BitVec 32 := Scalar.addi c0_i32_1679 v1737
  v1738.toNat
def k0_dev94 (d0 : Dev nD) : Nat :=
  let c0_i32_1692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1684 : BitVec 32 := 30#32
  let v1747 : BitVec 32 := Scalar.subi v2 c30_i32_1684
  let c32_i32_1685 : BitVec 32 := 32#32
  let v1748 : BitVec 32 := Scalar.addi v1747 c32_i32_1685
  let c32_i32_1686 : BitVec 32 := 32#32
  let v1749 : BitVec 32 := Scalar.remsi v1748 c32_i32_1686
  let c1_i32_1691 : BitVec 32 := 1#32
  let v1750 : BitVec 32 := Scalar.muli v1749 c1_i32_1691
  let v1751 : BitVec 32 := Scalar.addi c0_i32_1692 v1750
  v1751.toNat
def k0_dev95 (d0 : Dev nD) : Nat :=
  let c0_i32_1705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1697 : BitVec 32 := 31#32
  let v1760 : BitVec 32 := Scalar.subi v2 c31_i32_1697
  let c32_i32_1698 : BitVec 32 := 32#32
  let v1761 : BitVec 32 := Scalar.addi v1760 c32_i32_1698
  let c32_i32_1699 : BitVec 32 := 32#32
  let v1762 : BitVec 32 := Scalar.remsi v1761 c32_i32_1699
  let c1_i32_1704 : BitVec 32 := 1#32
  let v1763 : BitVec 32 := Scalar.muli v1762 c1_i32_1704
  let v1764 : BitVec 32 := Scalar.addi c0_i32_1705 v1763
  v1764.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S32768x512 : Shape := ⟨2, ![32768, 512]⟩
abbrev S512x128 : Shape := ⟨2, ![512, 128]⟩
abbrev S32768x1 : Shape := ⟨2, ![32768, 1]⟩
abbrev S128x512x1024 : Shape := ⟨3, ![128, 512, 1024]⟩
abbrev S512x1024 : Shape := ⟨2, ![512, 1024]⟩
abbrev S32768x128 : Shape := ⟨2, ![32768, 128]⟩
abbrev S_ : Shape := ⟨0, ![]⟩
abbrev S32768 : Shape := ⟨1, ![32768]⟩
abbrev S32768x1024 : Shape := ⟨2, ![32768, 1024]⟩
abbrev S32768x1x1 : Shape := ⟨3, ![32768, 1, 1]⟩
abbrev S1 : Shape := ⟨1, ![1]⟩
abbrev S1x1x1 : Shape := ⟨3, ![1, 1, 1]⟩
abbrev S32768x512x1024 : Shape := ⟨3, ![32768, 512, 1024]⟩

abbrev nBuf : Space → Nat
  | .hbm => 58
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S512x128, .bf16⟩
  | .hbm, ⟨2, _⟩ => ⟨S32768x1, .i32⟩
  | .hbm, ⟨3, _⟩ => ⟨S128x512x1024, .bf16⟩
  | .hbm, ⟨4, _⟩ => ⟨S512x1024, .bf16⟩
  | .hbm, ⟨5, _⟩ => ⟨S32768x512, .f32⟩
  | .hbm, ⟨6, _⟩ => ⟨S512x128, .f32⟩
  | .hbm, ⟨7, _⟩ => ⟨S32768x128, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S32768x128, .f32⟩
  | .hbm, ⟨12, _⟩ => ⟨S32768x128, .f32⟩
  | .hbm, ⟨13, _⟩ => ⟨S32768x128, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S32768x128, .f32⟩
  | .hbm, ⟨18, _⟩ => ⟨S32768x128, .f32⟩
  | .hbm, ⟨19, _⟩ => ⟨S512x1024, .f32⟩
  | .hbm, ⟨20, _⟩ => ⟨S32768x1024, .f32⟩
  | .hbm, ⟨21, _⟩ => ⟨S_, .i32⟩
  | .hbm, ⟨22, _⟩ => ⟨S32768x1, .i32⟩
  | .hbm, ⟨23, _⟩ => ⟨S32768x1, .i1⟩
  | .hbm, ⟨24, _⟩ => ⟨S_, .i32⟩
  | .hbm, ⟨25, _⟩ => ⟨S32768x1, .i32⟩
  | .hbm, ⟨26, _⟩ => ⟨S32768x1, .i32⟩
  | .hbm, ⟨27, _⟩ => ⟨S32768x1, .i32⟩
  | .hbm, ⟨28, _⟩ => ⟨S32768x1x1, .i32⟩
  | .hbm, ⟨29, _⟩ => ⟨S1, .i32⟩
  | .hbm, ⟨30, _⟩ => ⟨S_, .i32⟩
  | .hbm, ⟨31, _⟩ => ⟨S32768x1x1, .i32⟩
  | .hbm, ⟨32, _⟩ => ⟨S32768x1x1, .i1⟩
  | .hbm, ⟨33, _⟩ => ⟨S1x1x1, .i32⟩
  | .hbm, ⟨34, _⟩ => ⟨S32768x1x1, .i32⟩
  | .hbm, ⟨35, _⟩ => ⟨S32768x1x1, .i1⟩
  | .hbm, ⟨36, _⟩ => ⟨S32768x1x1, .i1⟩
  | .hbm, ⟨37, _⟩ => ⟨S_, .i1⟩
  | .hbm, ⟨38, _⟩ => ⟨S32768x1, .i1⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S128x512x1024, .f32⟩
  | .hbm, ⟨44, _⟩ => ⟨S32768, .i32⟩
  | .hbm, ⟨45, _⟩ => ⟨S_, .i32⟩
  | .hbm, ⟨46, _⟩ => ⟨S32768, .i32⟩
  | .hbm, ⟨47, _⟩ => ⟨S32768, .i1⟩
  | .hbm, ⟨48, _⟩ => ⟨S_, .i32⟩
  | .hbm, ⟨49, _⟩ => ⟨S32768, .i32⟩
  | .hbm, ⟨50, _⟩ => ⟨S32768, .i32⟩
  | .hbm, ⟨51, _⟩ => ⟨S32768, .i32⟩
  | .hbm, ⟨52, _⟩ => ⟨S32768x1, .i32⟩
  | .hbm, ⟨53, _⟩ => ⟨S32768x512x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Proof.KernelIdeal.Contents.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

/-!
# What every buffer of the kernel holds

Device `c` packs its tokens into 32 blocks, one per destination: block `j` goes to device `c + j`.
The owner computes the experts on what arrived and sends block `j` back to device `c - j`.
This file names the contents of the four scratch buffers after each phase as functions of the arguments.
-/

@[expose] public section

noncomputable section

namespace Cert.KernelIdeal.Moe

open Cert.KernelIdeal Cert.KernelIdeal.Gen
open Idealize.ShloMosaic Idealize.ShloMosaic.TcCoe

variable {F : FTy → Type} [FloatOps F]

/-! ## The mesh: device `c`'s partner at distance `j`, in both directions -/

set_option backward.proofsInPublic true in
/-- The device `j` steps after `c`: where `c`'s block `j` goes. -/
def fwd (c : Dev nD) (j : Fin 32) : Dev nD := ⟨(c.val + j.val) % 32, Nat.mod_lt _ (by decide)⟩
set_option backward.proofsInPublic true in
/-- The device `j` steps before `c`: where `c`'s block `j` came from. -/
def bwd (c : Dev nD) (j : Fin 32) : Dev nD := ⟨(c.val + (32 - j.val)) % 32, Nat.mod_lt _ (by decide)⟩

theorem bwd_fwd (c : Dev nD) (j : Fin 32) : bwd (fwd c j) j = c := by
  apply Fin.ext; have := c.isLt; have := j.isLt; simp only [nD] at *; dsimp only [bwd, fwd]; omega
theorem fwd_bwd (c : Dev nD) (j : Fin 32) : fwd (bwd c j) j = c := by
  apply Fin.ext; have := c.isLt; have := j.isLt; simp only [nD] at *; dsimp only [bwd, fwd]; omega

/-- Going `j` steps forward is a permutation of the mesh. -/
def shift (j : Fin 32) : Dev nD ≃ Dev nD := ⟨fun c => fwd c j, fun c => bwd c j, fun c => bwd_fwd c j, fun c => fwd_bwd c j⟩

set_option backward.proofsInPublic true in
/-- The distance the other way round. -/
def opp (j : Fin 32) : Fin 32 := ⟨(32 - j.val) % 32, Nat.mod_lt _ (by decide)⟩
theorem opp_opp (j : Fin 32) : opp (opp j) = j := by
  apply Fin.ext; have := j.isLt; dsimp only [opp]; omega
theorem fwd_opp (c : Dev nD) (j : Fin 32) : fwd c (opp j) = bwd c j := by
  apply Fin.ext; have := j.isLt; dsimp only [opp, fwd, bwd]; omega
theorem opp_ne_zero {j : Fin 32} (h : j ≠ 0) : opp j ≠ 0 := by
  intro h'; apply h; apply Fin.ext; have := congrArg Fin.val h'; have := j.isLt; dsimp only [opp] at *; simp only [Fin.val_zero] at *; omega
def oppEquiv : Fin 32 ≃ Fin 32 := ⟨opp, opp, opp_opp, opp_opp⟩

section Values

variable (m : (ℓ : Loc nD τ sig) → Buf (Elt F) ℓ) (c : Dev nD)

/-! ## The arguments as the kernel reads them -/

/-- The tokens of device `c`. -/
def xin : Vec F S1024x512 .bf16 := iblk m c 0 t0_0
/-- The router's weights. -/
def rwin : Vec F S512x128 .bf16 := iblk m c 1 t0_0
/-- The experts' numbers, one per token. -/
def rtin : Vec F S1024x1 .i32 := iblk m c 2 t0_0
/-- The four experts of device `c`. -/
def ewin : Vec F S4x512x1024 .bf16 := iblk m c 3 t0_0
/-- The shared expert. -/
def swin : Vec F S512x1024 .bf16 := iblk m c 4 t0_0

/-! ## Routing -/

/-- The device's number as the kernel computes it. -/
def myId : BitVec 32 := Scalar.remsi (Scalar.divsi (Dev.word c) 1#32) 32#32

/-- The tokens scaled by their gates. -/
def gated : FVec F S1024x512 .bf16 := k0_pay4 (xin m c) (rwin m c) (rtin m c)
/-- Each token's destination, as a column. -/
def dstCol : IVec S1024x1 32 := k0_pay5 (k0_pay2 (rtin m c)) 4#32
/-- The quotients the row of destinations is made from. -/
def quoRow : IVec S1x1024 32 := k0_pay6 (k0_pay3 (rtin m c))
def adjRow : IVec S1x1024 1 := k0_pay7 (k0_pay3 (rtin m c))
def decRow : IVec S1x1024 32 := k0_pay8 (k0_pay3 (rtin m c))
/-- Each token's distance to its destination, as a row. -/
def distRow : IVec S1x1024 32 := k0_pay10 (myId c) (quoRow m c) (adjRow m c) (decRow m c)
/-- Each token's expert on its destination. -/
def elocCol : FVec F S1024x1 .bf16 := k0_pay11 (F := F) (k0_pay2 (rtin m c))
/-- How many earlier tokens share the token's destination, as a column and as a row. -/
def posCol : IVec S1024x1 32 := k0_pay13 (dstCol m c) (quoRow m c) (adjRow m c) (decRow m c)
def posRow : IVec S1x1024 32 := k0_pay14 (dstCol m c) (quoRow m c) (adjRow m c) (decRow m c)
/-- The token's place among the 2048 of the send buffer, as a column and as a row. -/
def slotCol : IVec S1024x1 32 := k0_pay16 (posCol m c) (k0_pay15 (myId c) (dstCol m c))
def slotRow : IVec S1x1024 32 := k0_pay17 (distRow m c) (posRow m c)
/-- What a token sends: its gated row and its expert's number, repeated. -/
def payRows : FVec F S1024x640 .bf16 := k0_pay18 (gated m c) (elocCol m c)

/-- Blocks `8g` to `8g + 7` of the send buffer, as the kernel computes them. -/
def sendGroup : ℕ → FVec F S8x64x640 .bf16
  | 0 => k0_pay19 (gated m c) (distRow m c) (elocCol m c) (posRow m c)
  | 1 => k0_pay21 (payRows m c) (k0_pay20 (slotRow m c))
  | 2 => k0_pay22 (slotRow m c) (payRows m c)
  | _ => k0_pay23 (slotRow m c) (payRows m c)

set_option backward.proofsInPublic true in
/-- The index of an element of a group of eight blocks within the group. -/
def inGroup640 (i : S32x64x640.Idx) : S8x64x640.Idx := fun
  | (0 : Fin 3) => ⟨(i (0 : Fin 3)).val % 8, Nat.mod_lt _ (by decide)⟩
  | (1 : Fin 3) => i (1 : Fin 3)
  | (2 : Fin 3) => i (2 : Fin 3)
set_option backward.proofsInPublic true in
def inGroup1024 (i : S32x64x1024.Idx) : S8x64x1024.Idx := fun
  | (0 : Fin 3) => ⟨(i (0 : Fin 3)).val % 8, Nat.mod_lt _ (by decide)⟩
  | (1 : Fin 3) => i (1 : Fin 3)
  | (2 : Fin 3) => i (2 : Fin 3)

/-- The whole send buffer. -/
def sendAll : (cc0_scratch0 : Ref sig .tc).ty.Contents (Elt F) :=
  fun (i : S32x64x640.Idx) => sendGroup m c ((i (0 : Fin 3)).val / 8) (inGroup640 i)
/-- The whole receive buffer: block `j` is block `j` of the device `j` steps before. -/
def recvAll : (cc0_scratch1 : Ref sig .tc).ty.Contents (Elt F) :=
  fun (i : S32x64x640.Idx) => sendAll m (bwd c (i (0 : Fin 3))) i

theorem inb_grp640 (g : ℕ) (h : g ≤ 24) : ∀ a, (![g, 0, 0] : Fin 3 → ℕ) a + S8x64x640.size a ≤ S32x64x640.size a := by
  intro a; fin_cases a
  · show g + 8 ≤ 32; omega
  · show 0 + 64 ≤ 64; omega
  · show 0 + 640 ≤ 640; omega

/-- A load of eight received blocks, from block `g` on. -/
def recvGroup (g : ℕ) (h : g ≤ 24) : Vec F S8x64x640 .bf16 :=
  (Memref.whole cc0_scratch1 : Memref sig .tc .vmem S32x64x640 .bf16).view.readAt (Elt F)
    (Rect.unit (s := S32x64x640) ![g, 0, 0] S8x64x640.size (inb_grp640 g h)).toLoadRect (recvAll m c)

theorem inb_exp (k : ℕ) (h : k < 4) : ∀ a, (![k, 0, 0] : Fin 3 → ℕ) a + S1x512x1024.size a ≤ S4x512x1024.size a := by
  intro a; fin_cases a
  · show k + 1 ≤ 4; omega
  · show 0 + 512 ≤ 512; omega
  · show 0 + 1024 ≤ 1024; omega

/-- A load of one expert's weights. -/
def expW (k : ℕ) (h : k < 4) : Vec F S1x512x1024 .bf16 :=
  (Memref.whole cc0_stg3_0 : Memref sig .tc .vmem S4x512x1024 .bf16).view.readAt (Elt F)
    (Rect.unit (s := S4x512x1024) ![k, 0, 0] S1x512x1024.size (inb_exp k h)).toLoadRect (ewin m c)

/-- What the device's experts make of received blocks `r`, computed as for the first eight blocks. -/
def applyExperts0 (e0 e1 e2 e3 : Vec F S1x512x1024 .bf16) (r : Vec F S8x64x640 .bf16) : FVec F S8x64x1024 .bf16 :=
  k0_pay30 (k0_pay29 (k0_pay25 r) (k0_pay26 r) (k0_pay27 (F := F)) (Scalar.ofBits .bf16 0x0000#16) (k0_pay28 r) e0 e1 e2 e3)
def applyExperts1 (e0 e1 e2 e3 : Vec F S1x512x1024 .bf16) (r : Vec F S8x64x640 .bf16) : FVec F S8x64x1024 .bf16 :=
  k0_pay35 (k0_pay31 r) (k0_pay32 r) (k0_pay33 r e0) (k0_pay34 r) e1 e2 e3
def applyExperts2 (e0 e1 e2 e3 : Vec F S1x512x1024 .bf16) (r : Vec F S8x64x640 .bf16) : FVec F S8x64x1024 .bf16 :=
  k0_pay39 (k0_pay36 r) (k0_pay37 r) (k0_pay38 r e0 e1 e2) e3
def applyExperts3 (e0 e1 e2 e3 : Vec F S1x512x1024 .bf16) (r : Vec F S8x64x640 .bf16) : FVec F S8x64x1024 .bf16 :=
  k0_pay45 (k0_pay44 (k0_pay40 r) (k0_pay41 r) (k0_pay42 (F := F)) (k0_pay43 r) e0 e1 e2 e3)

set_option backward.proofsInPublic true in
/-- Blocks `8g` to `8g + 7` of the result buffer. -/
def resGroup : ℕ → FVec F S8x64x1024 .bf16
  | 0 => applyExperts0 (expW m c 0 (by decide)) (expW m c 1 (by decide)) (expW m c 2 (by decide)) (expW m c 3 (by decide)) (recvGroup m c 0 (by decide))
  | 1 => applyExperts1 (expW m c 0 (by decide)) (expW m c 1 (by decide)) (expW m c 2 (by decide)) (expW m c 3 (by decide)) (recvGroup m c 8 (by decide))
  | 2 => applyExperts2 (expW m c 0 (by decide)) (expW m c 1 (by decide)) (expW m c 2 (by decide)) (expW m c 3 (by decide)) (recvGroup m c 16 (by decide))
  | _ => applyExperts3 (expW m c 0 (by decide)) (expW m c 1 (by decide)) (expW m c 2 (by decide)) (expW m c 3 (by decide)) (recvGroup m c 24 (by decide))

/-- The whole result buffer. -/
def resAll : (cc0_scratch2 : Ref sig .tc).ty.Contents (Elt F) :=
  fun (i : S32x64x1024.Idx) => resGroup m c ((i (0 : Fin 3)).val / 8) (inGroup1024 i)
/-- The whole buffer of returned results: block `j` is block `j` of the device `j` steps after. -/
def backAll : (cc0_scratch3 : Ref sig .tc).ty.Contents (Elt F) :=
  fun (i : S32x64x1024.Idx) => resAll m (fwd c (i (0 : Fin 3))) i

/-- The shared expert on every token. -/
def sharedOut : (cc0_stg5_0 : Ref sig .tc).ty.Contents (Elt F) := k0_pay24 (k0_pay1 (xin m c)) (swin m c)
/-- The kernel's result on device `c`. -/
def outAt : (cc0_stg5_0 : Ref sig .tc).ty.Contents (Elt F) := k0_pay46 (slotCol m c) (backAll m c) (sharedOut m c)

end Values

end Cert.KernelIdeal.Moe

end

end
-- ==== Proof.KernelIdeal.Protocol.lean ====
module

public import proofs.«01_k».proof.Proof.KernelIdeal.Contents

/-!
# Who may touch what, when

Every device signals the 31 others once; that hands the receiver the blocks it will fill on the sender's side.
Each of the 128 transfer semaphores of a device is used once: 32 for sending and 32 for receiving blocks on the
way out, and as many on the way back. This file states the schedule of these cells, what each hands over, what
a device owes at launch, and the order in which cells may be waited for.
-/

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's, and one round of each cell with duties named by distance -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Rows of a buffer -/

/-- The elements whose first coordinate satisfies `p`. -/
def rows640 (p : ℕ → Prop) [DecidablePred p] : Finset S32x64x640.Idx := Finset.univ.filter fun i => p (i (0 : Fin 3)).val
def rows1024 (p : ℕ → Prop) [DecidablePred p] : Finset S32x64x1024.Idx := Finset.univ.filter fun i => p (i (0 : Fin 3)).val

section Rows
variable (p q r : ℕ → Prop) [DecidablePred p] [DecidablePred q] [DecidablePred r]
theorem mem_rows640 (i : S32x64x640.Idx) : i ∈ rows640 p ↔ p (i (0 : Fin 3)).val := by simp [rows640]
theorem mem_rows1024 (i : S32x64x1024.Idx) : i ∈ rows1024 p ↔ p (i (0 : Fin 3)).val := by simp [rows1024]
end Rows

/-- Blocks of a device's send buffer (0), receive buffer (1), result buffer (2), returned buffer (3). -/
def sPart (c : Dev nD) (p : ℕ → Prop) [DecidablePred p] (f : Buf (Elt F) ((c : Thread nD τ).loc cc0_scratch0)) : sProp 𝕄 :=
  ((c : Thread nD τ).loc cc0_scratch0) ↦[rows640 p]{fullShare} f
def rPart (c : Dev nD) (p : ℕ → Prop) [DecidablePred p] (f : Buf (Elt F) ((c : Thread nD τ).loc cc0_scratch1)) : sProp 𝕄 :=
  ((c : Thread nD τ).loc cc0_scratch1) ↦[rows640 p]{fullShare} f
def ePart (c : Dev nD) (p : ℕ → Prop) [DecidablePred p] (f : Buf (Elt F) ((c : Thread nD τ).loc cc0_scratch2)) : sProp 𝕄 :=
  ((c : Thread nD τ).loc cc0_scratch2) ↦[rows1024 p]{fullShare} f
def bPart (c : Dev nD) (p : ℕ → Prop) [DecidablePred p] (f : Buf (Elt F) ((c : Thread nD τ).loc cc0_scratch3)) : sProp 𝕄 :=
  ((c : Thread nD τ).loc cc0_scratch3) ↦[rows1024 p]{fullShare} f

section PartStorable
variable (c : Dev nD) (p : ℕ → Prop) [DecidablePred p]
omit [FloatOps F]
instance sPart_storable (f) : BI.Storable (upEmb : UEmb _ 𝕄) (sPart (F := F) c p f) := by unfold sPart; infer_instance
instance rPart_storable (f) : BI.Storable (upEmb : UEmb _ 𝕄) (rPart (F := F) c p f) := by unfold rPart; infer_instance
instance ePart_storable (f) : BI.Storable (upEmb : UEmb _ 𝕄) (ePart (F := F) c p f) := by unfold ePart; infer_instance
instance bPart_storable (f) : BI.Storable (upEmb : UEmb _ 𝕄) (bPart (F := F) c p f) := by unfold bPart; infer_instance
end PartStorable

/-! ## The cells -/

/-- The runtime's barrier semaphore. -/
abbrev barS : Sem sig := (SemArray.scalar (sig.barrier 0 rfl) : Sems sig S_).sem

set_option backward.proofsInPublic true in
/-- Transfer semaphore `j` of kind `k`: 0 sends out, 1 receives, 2 sends back, 3 receives back. -/
def qsem (k : Fin 4) (j : Fin 32) : DmaSem sig := ⟨6 + 32 * k.val + j.val, by
  have : sig.nDmaSem = 134 := rfl
  have := k.isLt; have := j.isLt; omega⟩
set_option backward.proofsInPublic true in
def kindOf (q : DmaSem sig) : Fin 4 := ⟨(q.val - 6) / 32 % 4, Nat.mod_lt _ (by decide)⟩
set_option backward.proofsInPublic true in
def distOf (q : DmaSem sig) : Fin 32 := ⟨(q.val - 6) % 32, Nat.mod_lt _ (by decide)⟩

theorem qsem_le (k : Fin 4) (j : Fin 32) : 6 ≤ (qsem k j).val := by dsimp only [qsem]; omega
theorem kindOf_qsem (k : Fin 4) (j : Fin 32) : kindOf (qsem k j) = k := by
  apply Fin.ext; have := k.isLt; have := j.isLt; dsimp only [kindOf, qsem]; omega
theorem distOf_qsem (k : Fin 4) (j : Fin 32) : distOf (qsem k j) = j := by
  apply Fin.ext; have := k.isLt; have := j.isLt; dsimp only [distOf, qsem]; omega
theorem qsem_inj {k k' : Fin 4} {j j' : Fin 32} (h : qsem k j = qsem k' j') : k = k' ∧ j = j' :=
  ⟨by rw [← kindOf_qsem k j, h, kindOf_qsem], by rw [← distOf_qsem k j, h, distOf_qsem]⟩

theorem inb_sem (j : ℕ) (h : j < 32) : ∀ a, (![j] : Fin 1 → ℕ) a + S1.size a ≤ S32.size a := by
  intro a; fin_cases a; show j + 1 ≤ 32; omega

/-- The semaphores as the kernel names them. -/
abbrev semAt (a : DmaSems sig S32) (j : ℕ) (h : j < 32) : DmaSem sig :=
  ((a.slice (Rect.unit (s := S32) ![j] S1.size (inb_sem j h))).squeeze S_ squeezes_S1_S_).sem

theorem semAt_0 : ∀ j : Fin 32, semAt cc0_scratch4 j.val j.isLt = qsem 0 j := by decide +kernel
theorem semAt_1 : ∀ j : Fin 32, semAt cc0_scratch5 j.val j.isLt = qsem 1 j := by decide +kernel
theorem semAt_2 : ∀ j : Fin 32, semAt cc0_scratch6 j.val j.isLt = qsem 2 j := by decide +kernel
theorem semAt_3 : ∀ j : Fin 32, semAt cc0_scratch7 j.val j.isLt = qsem 3 j := by decide +kernel

abbrev barCell (c : Dev nD) : GSem nD τ sig := ((c : Thread nD τ), .reg barS)
abbrev xCell (c : Dev nD) (k : Fin 4) (j : Fin 32) : GSem nD τ sig := ((c : Thread nD τ), .dma (qsem k j))

/-! ## The blocks -/

theorem inb_blk640 (j : ℕ) (h : j < 32) : ∀ a, (![j, 0, 0] : Fin 3 → ℕ) a + S1x64x640.size a ≤ S32x64x640.size a := by
  intro a; fin_cases a
  · show j + 1 ≤ 32; omega
  · show 0 + 64 ≤ 64; omega
  · show 0 + 640 ≤ 640; omega
theorem inb_blk1024 (j : ℕ) (h : j < 32) : ∀ a, (![j, 0, 0] : Fin 3 → ℕ) a + S1x64x1024.size a ≤ S32x64x1024.size a := by
  intro a; fin_cases a
  · show j + 1 ≤ 32; omega
  · show 0 + 64 ≤ 64; omega
  · show 0 + 1024 ≤ 1024; omega

abbrev blk640 (a : Memref sig .tc .vmem S32x64x640 .bf16) (j : ℕ) (h : j < 32) : Memref sig .tc .vmem S64x640 .bf16 :=
  (a.slice (Rect.unit (s := S32x64x640) ![j, 0, 0] S1x64x640.size (inb_blk640 j h)) (fun _ => rfl)).squeeze S64x640 squeezes_S1x64x640_S64x640
abbrev blk1024 (a : Memref sig .tc .vmem S32x64x1024 .bf16) (j : ℕ) (h : j < 32) : Memref sig .tc .vmem S64x1024 .bf16 :=
  (a.slice (Rect.unit (s := S32x64x1024) ![j, 0, 0] S1x64x1024.size (inb_blk1024 j h)) (fun _ => rfl)).squeeze S64x1024 squeezes_S1x64x1024_S64x1024

abbrev sM : Memref sig .tc .vmem S32x64x640 .bf16 := Memref.whole cc0_scratch0
abbrev rM : Memref sig .tc .vmem S32x64x640 .bf16 := Memref.whole cc0_scratch1
abbrev eM : Memref sig .tc .vmem S32x64x1024 .bf16 := Memref.whole cc0_scratch2
abbrev bM : Memref sig .tc .vmem S32x64x1024 .bf16 := Memref.whole cc0_scratch3

/-- The credit of one transfer: out, and back. -/
abbrev N₁ : ℕ := (blk640 rM 0 (by decide)).view.dmaCredit
abbrev N₂ : ℕ := (blk1024 bM 0 (by decide)).view.dmaCredit
theorem N₁_pos : 0 < N₁ := View.dmaCredit_pos _ (by decide)
theorem N₂_pos : 0 < N₂ := View.dmaCredit_pos _ (by decide)

def credit (k : Fin 4) : ℕ := if k.val < 2 then N₁ else N₂
theorem credit_pos (k : Fin 4) : 0 < credit k := by unfold credit; split; exacts [N₁_pos, N₂_pos]

/-! ## The schedule -/

/-- What the signal from the device `k` steps before `c` hands `c`: the sender's two landing blocks that `c` will fill. -/
def barPay (c : Dev nD) (k : Fin 32) : sProp 𝕄 :=
  iprop((∃ f, rPart (bwd c k) (· = (opp k).val) f) ∗ ∃ f, bPart (bwd c k) (· = k.val) f)

/-- What a transfer semaphore hands its waiter: the block that was sent, or the block that has arrived. -/
def xPay (k : Fin 4) (c : Dev nD) (j : Fin 32) : sProp 𝕄 :=
  match k with
  | 0 => sPart c (· = j.val) (sendAll m c)
  | 1 => rPart c (· = j.val) (recvAll m c)
  | 2 => ePart c (· = j.val) (resAll m c)
  | 3 => bPart c (· = j.val) (backAll m c)

instance xPay_storable (k : Fin 4) (c : Dev nD) (j : Fin 32) : BI.Storable (upEmb : UEmb _ 𝕄) (xPay m k c j) := by
  unfold xPay; split <;> infer_instance
omit [FloatOps F] in
instance barPay_storable (c : Dev nD) (k : Fin 32) : BI.Storable (upEmb : UEmb _ 𝕄) (barPay (F := F) c k) := by
  unfold barPay; infer_instance

/-- One round: a barrier cell has one unit from each other device, a transfer cell one transfer. -/
def rd : Rounds.Schedule (GSem nD τ sig) (Fin 32) 𝕄 where
  duties g r := if r = 0 ∧ g.1.2 = .tc then
      (match g.2 with
        | .reg s => if s = barS then Finset.univ.erase 0 else ∅
        | .dma q => if 6 ≤ q.val then {0} else ∅)
    else ∅
  unitless _ := False
  amount g _ _ := match g.2 with
    | .reg _ => 1
    | .dma q => credit (kindOf q)
  payload g _ d := match g.2 with
    | .reg _ => barPay g.1.1 d
    | .dma q => xPay m (kindOf q) g.1.1 (distOf q)
  amount_pos g _ _ _ := by
    split
    · exact Nat.one_pos
    · exact credit_pos _

instance rd_payload_storable (g : GSem nD τ sig) (r : ℕ) (d : Fin 32) :
    BI.Storable (upEmb : UEmb _ 𝕄) ((rd (F := F) m).payload g r d) := by
  dsimp only [rd]; split <;> infer_instance

section Sched
variable (c : Dev nD) (k : Fin 4) (j d : Fin 32)

theorem duties_bar : (rd (F := F) m).duties (barCell c) 0 = Finset.univ.erase 0 := by
  dsimp only [rd]; rw [if_pos ⟨rfl, rfl⟩]; exact if_pos rfl
theorem duties_x : (rd (F := F) m).duties (xCell c k j) 0 = {0} := by
  dsimp only [rd]; rw [if_pos ⟨rfl, rfl⟩]; exact if_pos (qsem_le k j)
theorem duties_later (g : GSem nD τ sig) : ∀ r, 1 ≤ r → (rd (F := F) m).duties g r = ∅ :=
  fun r hr => by dsimp only [rd]; exact if_neg fun h => by omega

theorem amount_bar : (rd (F := F) m).amount (barCell c) 0 d = 1 := rfl
theorem amount_x : (rd (F := F) m).amount (xCell c k j) 0 d = credit k := by dsimp only [rd]; rw [kindOf_qsem]

theorem expect_bar : (rd (F := F) m).expect (barCell c) 0 = 31 := by
  unfold Schedule.expect Schedule.amountOf
  rw [duties_bar, Finset.sum_congr rfl fun d _ => amount_bar m c d, Finset.sum_const]; rfl
theorem expect_x : (rd (F := F) m).expect (xCell c k j) 0 = credit k := by
  unfold Schedule.expect Schedule.amountOf; rw [duties_x, Finset.sum_singleton, amount_x]

theorem payload_bar : (rd (F := F) m).payload (barCell c) 0 d = barPay c d := rfl
theorem payload_x : (rd (F := F) m).payload (xCell c k j) 0 d = xPay m k c j := by
  dsimp only [rd]; rw [kindOf_qsem, distOf_qsem]

/-- The whole round of a barrier cell, and of a transfer cell. -/
theorem rest_bar : bigSep ((rd (F := F) m).duties (barCell c) 0 \ ∅) (fun d => (rd (F := F) m).payload (barCell c) 0 d)
    = bigSep (Finset.univ.erase 0) (fun d => barPay c d) := by
  rw [Finset.sdiff_empty, duties_bar]; rfl
theorem rest_x : bigSep ((rd (F := F) m).duties (xCell c k j) 0 \ ∅) (fun d => (rd (F := F) m).payload (xCell c k j) 0 d) = xPay m k c j := by
  rw [Finset.sdiff_empty, duties_x, bigSep_singleton, payload_x]

end Sched

/-! ## What a device owes, and the levels -/

/-- The distances from `s` on. -/
def frm (s : ℕ) : Finset (Fin 32) := Finset.univ.filter fun j => s ≤ j.val

theorem mem_frm (s : ℕ) (j : Fin 32) : j ∈ frm s ↔ s ≤ j.val := by simp [frm]
theorem frm_succ {s : ℕ} (h : s < 32) : frm s = insert ⟨s, h⟩ (frm (s + 1)) := by
  ext j; rw [Finset.mem_insert, mem_frm, mem_frm, Fin.ext_iff]; show _ ↔ j.val = s ∨ _; omega
theorem notMem_frm {s : ℕ} (h : s < 32) : (⟨s, h⟩ : Fin 32) ∉ frm (s + 1) := by rw [mem_frm]; show ¬ s + 1 ≤ s; omega
theorem frm_end : frm 32 = ∅ := by
  ext j; rw [mem_frm]; have := j.isLt; simp only [Finset.notMem_empty, iff_false]; omega
theorem frm_zero : frm 0 = Finset.univ := by ext j; rw [mem_frm]; simp

def oweBar (c : Dev nD) (s : ℕ) : CellTallies nD τ sig Unit := ∑ j ∈ frm s, tallyAt (barCell (fwd c j)) () 1
def oweOut (c : Dev nD) (s : ℕ) : CellTallies nD τ sig Unit := ∑ j ∈ frm s, tallyAt (xCell (fwd c j) 1 j) () N₁
def oweBack (c : Dev nD) (s : ℕ) : CellTallies nD τ sig Unit := ∑ j ∈ frm s, tallyAt (xCell (bwd c j) 3 j) () N₂

/-- What device `c` owes once it has signalled below distance `s`, sent out below `d` and sent back below `e`. -/
def owing (c : Dev nD) (s d e : ℕ) : CellTallies nD τ sig Unit := oweBar c s + oweOut c d + oweBack c e

theorem owing_bar (c : Dev nD) {s : ℕ} (h : s < 32) (d e : ℕ) :
    owing c s d e = owing c (s + 1) d e + tallyAt (barCell (fwd c ⟨s, h⟩)) () 1 := by
  unfold owing oweBar; rw [frm_succ h, Finset.sum_insert (notMem_frm h)]; ac_rfl
theorem owing_out (c : Dev nD) (s : ℕ) {d : ℕ} (h : d < 32) (e : ℕ) :
    owing c s d e = owing c s (d + 1) e + tallyAt (xCell (fwd c ⟨d, h⟩) 1 ⟨d, h⟩) () N₁ := by
  unfold owing oweOut; rw [frm_succ h, Finset.sum_insert (notMem_frm h)]; ac_rfl
theorem owing_back (c : Dev nD) (s d : ℕ) {e : ℕ} (h : e < 32) :
    owing c s d e = owing c s d (e + 1) + tallyAt (xCell (bwd c ⟨e, h⟩) 3 ⟨e, h⟩) () N₂ := by
  unfold owing oweBack; rw [frm_succ h, Finset.sum_insert (notMem_frm h)]; ac_rfl
theorem owing_end (c : Dev nD) : owing c 32 32 32 = 0 := by
  unfold owing oweBar oweOut oweBack; rw [frm_end]; simp only [Finset.sum_empty, add_zero]

def L (g : GSem nD τ sig) : Finset Unit := if g.1.2 = .tc then {()} else ∅
/-- Barrier cells first, then the receiving cells of the way out, then those of the way back; all others before them. -/
def lv (g : GSem nD τ sig) (_ : Unit) : ℕ := match g.2 with
  | .reg _ => 1
  | .dma q => if 6 ≤ q.val then (if kindOf q = 1 then 2 else if kindOf q = 3 then 3 else 0) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_x (c : Dev nD) (k : Fin 4) (j : Fin 32) : lv (xCell c k j) () = if k = 1 then 2 else if k = 3 then 3 else 0 := by
  dsimp only [lv]; rw [if_pos (qsem_le k j), kindOf_qsem]

theorem sum_pos {s : Finset (Fin 32)} (f : Fin 32 → CellTallies nD τ sig Unit) {g : GSem nD τ sig} {u : Unit}
    (h : 0 < (∑ j ∈ s, f j) g u) : ∃ j ∈ s, 0 < f j g u := by
  rw [Finset.sum_apply, Finsupp.finset_sum_apply] at h
  by_contra hn
  have : ∑ j ∈ s, f j g u = 0 := Finset.sum_eq_zero fun j hj => by
    by_contra h0; exact hn ⟨j, hj, Nat.pos_of_ne_zero h0⟩
  omega

theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

/-- The cells a device owes units to. -/
theorem owing_pos {c : Dev nD} {s d e : ℕ} {g : GSem nD τ sig} {u : Unit} (h : 0 < owing c s d e g u) :
    (∃ j ∈ frm s, g = barCell (fwd c j)) ∨ (∃ j ∈ frm d, g = xCell (fwd c j) 1 j) ∨ ∃ j ∈ frm e, g = xCell (bwd c j) 3 j := by
  unfold owing at h
  rw [Pi.add_apply, Finsupp.add_apply, Pi.add_apply, Finsupp.add_apply] at h
  rcases Nat.eq_zero_or_pos (oweBar c s g u) with h1 | h1
  · rcases Nat.eq_zero_or_pos (oweOut c d g u) with h2 | h2
    · obtain ⟨j, hj, hp⟩ := sum_pos (fun j => tallyAt (xCell (bwd c j) 3 j) () N₂) (by rw [h1, h2] at h; simpa [oweBack] using h)
      exact .inr (.inr ⟨j, hj, tally_pos hp⟩)
    · obtain ⟨j, hj, hp⟩ := sum_pos (fun j => tallyAt (xCell (fwd c j) 1 j) () N₁) h2
      exact .inr (.inl ⟨j, hj, tally_pos hp⟩)
  · obtain ⟨j, hj, hp⟩ := sum_pos (fun j => tallyAt (barCell (fwd c j)) () 1) h1
    exact .inl ⟨j, hj, tally_pos hp⟩

omit [FloatOps F] in
/-- A cell may be waited for when every cell owed to lies above it. -/
theorem mayWait (c : Dev nD) (sm : SemLoc sig) (n s d e : ℕ) (hlow : lv ((c : Thread nD τ), sm) () ≤ n)
    (hb : frm s = ∅ ∨ n < 1) (ho : frm d = ∅ ∨ n < 2) (hk : frm e = ∅ ∨ n < 3) :
    (levAts L lv : sProp 𝕄) ⊢ MayWait (c : Thread nD τ) sm () (owing c s d e) :=
  MayOwe.of_cut (L := L) (lev := lv) n
    (fun p hp => by rw [Finset.mem_singleton.mp hp, L_tc]; exact Finset.mem_singleton_self _)
    (fun g u hg => by rcases owing_pos hg with ⟨j, -, rfl⟩ | ⟨j, -, rfl⟩ | ⟨j, -, rfl⟩ <;> exact Finset.mem_singleton_self _)
    (fun p hp => by rw [Finset.mem_singleton.mp hp]; exact hlow)
    (fun g u hg => by
      rcases owing_pos hg with ⟨j, hj, rfl⟩ | ⟨j, hj, rfl⟩ | ⟨j, hj, rfl⟩
      · rcases hb with hb | hb
        · rw [hb] at hj; exact absurd hj (Finset.notMem_empty j)
        · exact hb
      · rcases ho with ho | ho
        · rw [ho] at hj; exact absurd hj (Finset.notMem_empty j)
        · show n < lv (xCell (fwd c j) 1 j) (); rw [lv_x]; exact ho
      · rcases hk with hk | hk
        · rw [hk] at hj; exact absurd hj (Finset.notMem_empty j)
        · show n < lv (xCell (bwd c j) 3 j) (); rw [lv_x]; exact hk)

end Cert.KernelIdeal.Moe

end

end
-- ==== Proof.KernelIdeal.Geometry.lean ====
module

public import proofs.«01_k».proof.Proof.KernelIdeal.Protocol

/-!
# Where blocks, groups and whole buffers lie

A block is one index of the first coordinate, a group is eight of them. A copied block keeps its coordinates,
and a stored group is the group computed.
-/

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The elements of a block and of a group -/

theorem mem_blk640 (j : ℕ) (h : j < 32) (i : S32x64x640.Idx) :
    i ∈ (Rect.unit (s := S32x64x640) ![j, 0, 0] S1x64x640.size (inb_blk640 j h)).set ↔ (i (0 : Fin 3)).val = j := by
  rw [Rect.mem_set_unit]
  constructor
  · intro hi
    have h0 : j ≤ (i (0 : Fin 3)).val ∧ (i (0 : Fin 3)).val < j + 1 := hi (0 : Fin 3)
    omega
  · intro hi a
    match a with
    | (0 : Fin 3) => show j ≤ (i (0 : Fin 3)).val ∧ (i (0 : Fin 3)).val < j + 1; omega
    | (1 : Fin 3) => exact ⟨Nat.zero_le _, by have : (i (1 : Fin 3)).val < 64 := (i (1 : Fin 3)).isLt; show (i (1 : Fin 3)).val < 0 + 64; omega⟩
    | (2 : Fin 3) => exact ⟨Nat.zero_le _, by have : (i (2 : Fin 3)).val < 640 := (i (2 : Fin 3)).isLt; show (i (2 : Fin 3)).val < 0 + 640; omega⟩

theorem mem_blk1024 (j : ℕ) (h : j < 32) (i : S32x64x1024.Idx) :
    i ∈ (Rect.unit (s := S32x64x1024) ![j, 0, 0] S1x64x1024.size (inb_blk1024 j h)).set ↔ (i (0 : Fin 3)).val = j := by
  rw [Rect.mem_set_unit]
  constructor
  · intro hi
    have h0 : j ≤ (i (0 : Fin 3)).val ∧ (i (0 : Fin 3)).val < j + 1 := hi (0 : Fin 3)
    omega
  · intro hi a
    match a with
    | (0 : Fin 3) => show j ≤ (i (0 : Fin 3)).val ∧ (i (0 : Fin 3)).val < j + 1; omega
    | (1 : Fin 3) => exact ⟨Nat.zero_le _, by have : (i (1 : Fin 3)).val < 64 := (i (1 : Fin 3)).isLt; show (i (1 : Fin 3)).val < 0 + 64; omega⟩
    | (2 : Fin 3) => exact ⟨Nat.zero_le _, by have : (i (2 : Fin 3)).val < 1024 := (i (2 : Fin 3)).isLt; show (i (2 : Fin 3)).val < 0 + 1024; omega⟩

theorem inb_grp1024 (g : ℕ) (h : g ≤ 24) : ∀ a, (![g, 0, 0] : Fin 3 → ℕ) a + S8x64x1024.size a ≤ S32x64x1024.size a := by
  intro a; fin_cases a
  · show g + 8 ≤ 32; omega
  · show 0 + 64 ≤ 64; omega
  · show 0 + 1024 ≤ 1024; omega

abbrev grp640 (g : ℕ) (h : g ≤ 24) : Rect S32x64x640 := Rect.unit (s := S32x64x640) ![g, 0, 0] S8x64x640.size (inb_grp640 g h)
abbrev grp1024 (g : ℕ) (h : g ≤ 24) : Rect S32x64x1024 := Rect.unit (s := S32x64x1024) ![g, 0, 0] S8x64x1024.size (inb_grp1024 g h)

theorem mem_grp640 (g : ℕ) (h : g ≤ 24) (i : S32x64x640.Idx) :
    i ∈ (grp640 g h).set ↔ g ≤ (i (0 : Fin 3)).val ∧ (i (0 : Fin 3)).val < g + 8 := by
  rw [Rect.mem_set_unit]
  constructor
  · intro hi; exact hi (0 : Fin 3)
  · intro hi a
    match a with
    | (0 : Fin 3) => exact hi
    | (1 : Fin 3) => exact ⟨Nat.zero_le _, by have : (i (1 : Fin 3)).val < 64 := (i (1 : Fin 3)).isLt; show (i (1 : Fin 3)).val < 0 + 64; omega⟩
    | (2 : Fin 3) => exact ⟨Nat.zero_le _, by have : (i (2 : Fin 3)).val < 640 := (i (2 : Fin 3)).isLt; show (i (2 : Fin 3)).val < 0 + 640; omega⟩

theorem mem_grp1024 (g : ℕ) (h : g ≤ 24) (i : S32x64x1024.Idx) :
    i ∈ (grp1024 g h).set ↔ g ≤ (i (0 : Fin 3)).val ∧ (i (0 : Fin 3)).val < g + 8 := by
  rw [Rect.mem_set_unit]
  constructor
  · intro hi; exact hi (0 : Fin 3)
  · intro hi a
    match a with
    | (0 : Fin 3) => exact hi
    | (1 : Fin 3) => exact ⟨Nat.zero_le _, by have : (i (1 : Fin 3)).val < 64 := (i (1 : Fin 3)).isLt; show (i (1 : Fin 3)).val < 0 + 64; omega⟩
    | (2 : Fin 3) => exact ⟨Nat.zero_le _, by have : (i (2 : Fin 3)).val < 1024 := (i (2 : Fin 3)).isLt; show (i (2 : Fin 3)).val < 0 + 1024; omega⟩

theorem set_blk0 (j : ℕ) (h : j < 32) : (blk640 sM j h).view.set = rows640 (· = j) := by
  ext i; rw [mem_rows640, ← mem_blk640 j h]
  show i ∈ ((View.slice (View.whole cc0_scratch0) _).reshape _ _).set ↔ _
  rw [View.set_reshape, View.set_slice_whole]
theorem set_blk1 (j : ℕ) (h : j < 32) : (blk640 rM j h).view.set = rows640 (· = j) := by
  ext i; rw [mem_rows640, ← mem_blk640 j h]
  show i ∈ ((View.slice (View.whole cc0_scratch1) _).reshape _ _).set ↔ _
  rw [View.set_reshape, View.set_slice_whole]
theorem set_blk2 (j : ℕ) (h : j < 32) : (blk1024 eM j h).view.set = rows1024 (· = j) := by
  ext i; rw [mem_rows1024, ← mem_blk1024 j h]
  show i ∈ ((View.slice (View.whole cc0_scratch2) _).reshape _ _).set ↔ _
  rw [View.set_reshape, View.set_slice_whole]
theorem set_blk3 (j : ℕ) (h : j < 32) : (blk1024 bM j h).view.set = rows1024 (· = j) := by
  ext i; rw [mem_rows1024, ← mem_blk1024 j h]
  show i ∈ ((View.slice (View.whole cc0_scratch3) _).reshape _ _).set ↔ _
  rw [View.set_reshape, View.set_slice_whole]

/-! ## A copied block keeps its coordinates -/

omit [FloatOps F] in
theorem copy_out (j : ℕ) (h : j < 32) (fd : (cc0_scratch1 : Ref sig .tc).ty.Contents (Elt F)) (fs : (cc0_scratch0 : Ref sig .tc).ty.Contents (Elt F))
    (i : S32x64x640.Idx) (hi : (i (0 : Fin 3)).val = j) :
    (blk640 rM j h).view.write (Elt F) fd ((blk640 sM j h).view.read (Elt F) fs) Finset.univ i = fs i := by
  have hm : i ∈ (blk640 rM j h).view.set := by rw [set_blk1, mem_rows640]; exact hi
  obtain ⟨x, -, rfl⟩ := Finset.mem_map.mp hm
  rw [View.write_emb_of_mem _ _ (Finset.mem_univ x)]
  rfl
omit [FloatOps F] in
theorem copy_back (j : ℕ) (h : j < 32) (fd : (cc0_scratch3 : Ref sig .tc).ty.Contents (Elt F)) (fs : (cc0_scratch2 : Ref sig .tc).ty.Contents (Elt F))
    (i : S32x64x1024.Idx) (hi : (i (0 : Fin 3)).val = j) :
    (blk1024 bM j h).view.write (Elt F) fd ((blk1024 eM j h).view.read (Elt F) fs) Finset.univ i = fs i := by
  have hm : i ∈ (blk1024 bM j h).view.set := by rw [set_blk3, mem_rows1024]; exact hi
  obtain ⟨x, -, rfl⟩ := Finset.mem_map.mp hm
  rw [View.write_emb_of_mem _ _ (Finset.mem_univ x)]
  rfl

/-! ## A stored group -/

theorem set_grp0 (g : ℕ) (h : g ≤ 24) : ((sM.access (grp640 g h)).setOn Finset.univ) = (grp640 g h).set := by
  show (View.slice (View.whole cc0_scratch0) _).set = _
  rw [View.set_slice_whole]
theorem set_grp2 (g : ℕ) (h : g ≤ 24) : ((eM.access (grp1024 g h)).setOn Finset.univ) = (grp1024 g h).set := by
  show (View.slice (View.whole cc0_scratch2) _).set = _
  rw [View.set_slice_whole]

omit [FloatOps F] in
theorem store_off0 (g : ℕ) (h : g ≤ 24) (f : (cc0_scratch0 : Ref sig .tc).ty.Contents (Elt F)) (w : FVec F S8x64x640 .bf16)
    (i : S32x64x640.Idx) (hi : (i (0 : Fin 3)).val < g) : (sM.access (grp640 g h)).write (Elt F) f w Finset.univ i = f i :=
  View.write_of_not_mem _ _ _ (by rw [set_grp0, mem_grp640]; omega)
omit [FloatOps F] in
theorem store_off2 (g : ℕ) (h : g ≤ 24) (f : (cc0_scratch2 : Ref sig .tc).ty.Contents (Elt F)) (w : FVec F S8x64x1024 .bf16)
    (i : S32x64x1024.Idx) (hi : (i (0 : Fin 3)).val < g) : (eM.access (grp1024 g h)).write (Elt F) f w Finset.univ i = f i :=
  View.write_of_not_mem _ _ _ (by rw [set_grp2, mem_grp1024]; omega)

omit [FloatOps F] in
theorem store_on0 (g : ℕ) (h : g ≤ 24) (h8 : g % 8 = 0) (f : (cc0_scratch0 : Ref sig .tc).ty.Contents (Elt F)) (w : FVec F S8x64x640 .bf16)
    (i : S32x64x640.Idx) (h1 : g ≤ (i (0 : Fin 3)).val) (h2 : (i (0 : Fin 3)).val < g + 8) :
    (sM.access (grp640 g h)).write (Elt F) f w Finset.univ i = w (inGroup640 i) := by
  have he : (sM.access (grp640 g h)).emb (inGroup640 i) = i := by
    funext a
    apply Fin.ext
    match a with
    | (0 : Fin 3) => show g + 1 * ((i (0 : Fin 3)).val % 8) = _; omega
    | (1 : Fin 3) => show 0 + 1 * (i (1 : Fin 3)).val = _; omega
    | (2 : Fin 3) => show 0 + 1 * (i (2 : Fin 3)).val = _; omega
  conv_lhs => rw [← he]
  rw [View.write_emb_of_mem _ _ (Finset.mem_univ _)]
  rfl
omit [FloatOps F] in
theorem store_on2 (g : ℕ) (h : g ≤ 24) (h8 : g % 8 = 0) (f : (cc0_scratch2 : Ref sig .tc).ty.Contents (Elt F)) (w : FVec F S8x64x1024 .bf16)
    (i : S32x64x1024.Idx) (h1 : g ≤ (i (0 : Fin 3)).val) (h2 : (i (0 : Fin 3)).val < g + 8) :
    (eM.access (grp1024 g h)).write (Elt F) f w Finset.univ i = w (inGroup1024 i) := by
  have he : (eM.access (grp1024 g h)).emb (inGroup1024 i) = i := by
    funext a
    apply Fin.ext
    match a with
    | (0 : Fin 3) => show g + 1 * ((i (0 : Fin 3)).val % 8) = _; omega
    | (1 : Fin 3) => show 0 + 1 * (i (1 : Fin 3)).val = _; omega
    | (2 : Fin 3) => show 0 + 1 * (i (2 : Fin 3)).val = _; omega
  conv_lhs => rw [← he]
  rw [View.write_emb_of_mem _ _ (Finset.mem_univ _)]
  rfl

/-! ## Splitting a buffer by blocks -/

section Split
variable (c : Dev nD) (p q r : ℕ → Prop) [DecidablePred p] [DecidablePred q] [DecidablePred r]

theorem rows640_union (h : ∀ n, p n ↔ q n ∨ r n) : rows640 p = rows640 q ∪ rows640 r := by
  ext i; rw [Finset.mem_union, mem_rows640, mem_rows640, mem_rows640, h]
theorem rows1024_union (h : ∀ n, p n ↔ q n ∨ r n) : rows1024 p = rows1024 q ∪ rows1024 r := by
  ext i; rw [Finset.mem_union, mem_rows1024, mem_rows1024, mem_rows1024, h]
theorem rows640_disj (h : ∀ n, q n → ¬ r n) : Disjoint (rows640 q) (rows640 r) :=
  Finset.disjoint_left.mpr fun i hi hi' => h _ ((mem_rows640 q i).mp hi) ((mem_rows640 r i).mp hi')
theorem rows1024_disj (h : ∀ n, q n → ¬ r n) : Disjoint (rows1024 q) (rows1024 r) :=
  Finset.disjoint_left.mpr fun i hi hi' => h _ ((mem_rows1024 q i).mp hi) ((mem_rows1024 r i).mp hi')
theorem rows640_none (h : ∀ n, n < 32 → ¬ p n) : rows640 p = ∅ := by
  ext i; rw [mem_rows640]; simp only [Finset.notMem_empty, iff_false]; exact h _ (i (0 : Fin 3)).isLt
theorem rows1024_none (h : ∀ n, n < 32 → ¬ p n) : rows1024 p = ∅ := by
  ext i; rw [mem_rows1024]; simp only [Finset.notMem_empty, iff_false]; exact h _ (i (0 : Fin 3)).isLt
theorem rows640_all (h : ∀ n, n < 32 → p n) : rows640 p = Finset.univ := by
  ext i; rw [mem_rows640]; simp only [Finset.mem_univ, iff_true]; exact h _ (i (0 : Fin 3)).isLt
theorem rows1024_all (h : ∀ n, n < 32 → p n) : rows1024 p = Finset.univ := by
  ext i; rw [mem_rows1024]; simp only [Finset.mem_univ, iff_true]; exact h _ (i (0 : Fin 3)).isLt

omit [FloatOps F]
theorem sPart_split (h : ∀ n, p n ↔ q n ∨ r n) (hd : ∀ n, q n → ¬ r n) (f) :
    (sPart c p f : sProp 𝕄) ⊣⊢ iprop(sPart c q f ∗ sPart c r f) := by
  unfold sPart; rw [rows640_union p q r h]; exact pointsTo_union (rows640_disj q r hd)
theorem rPart_split (h : ∀ n, p n ↔ q n ∨ r n) (hd : ∀ n, q n → ¬ r n) (f) :
    (rPart c p f : sProp 𝕄) ⊣⊢ iprop(rPart c q f ∗ rPart c r f) := by
  unfold rPart; rw [rows640_union p q r h]; exact pointsTo_union (rows640_disj q r hd)
theorem ePart_split (h : ∀ n, p n ↔ q n ∨ r n) (hd : ∀ n, q n → ¬ r n) (f) :
    (ePart c p f : sProp 𝕄) ⊣⊢ iprop(ePart c q f ∗ ePart c r f) := by
  unfold ePart; rw [rows1024_union p q r h]; exact pointsTo_union (rows1024_disj q r hd)
theorem bPart_split (h : ∀ n, p n ↔ q n ∨ r n) (hd : ∀ n, q n → ¬ r n) (f) :
    (bPart c p f : sProp 𝕄) ⊣⊢ iprop(bPart c q f ∗ bPart c r f) := by
  unfold bPart; rw [rows1024_union p q r h]; exact pointsTo_union (rows1024_disj q r hd)

theorem sPart_congr {f g} (h : ∀ i : S32x64x640.Idx, p (i (0 : Fin 3)).val → f i = g i) : (sPart c p f : sProp 𝕄) = sPart c p g := by
  unfold sPart; exact pointsTo_congr fun i hi => h i ((mem_rows640 p i).mp hi)
theorem rPart_congr {f g} (h : ∀ i : S32x64x640.Idx, p (i (0 : Fin 3)).val → f i = g i) : (rPart c p f : sProp 𝕄) = rPart c p g := by
  unfold rPart; exact pointsTo_congr fun i hi => h i ((mem_rows640 p i).mp hi)
theorem ePart_congr {f g} (h : ∀ i : S32x64x1024.Idx, p (i (0 : Fin 3)).val → f i = g i) : (ePart c p f : sProp 𝕄) = ePart c p g := by
  unfold ePart; exact pointsTo_congr fun i hi => h i ((mem_rows1024 p i).mp hi)
theorem bPart_congr {f g} (h : ∀ i : S32x64x1024.Idx, p (i (0 : Fin 3)).val → f i = g i) : (bPart c p f : sProp 𝕄) = bPart c p g := by
  unfold bPart; exact pointsTo_congr fun i hi => h i ((mem_rows1024 p i).mp hi)

theorem sPart_none (h : ∀ n, n < 32 → ¬ p n) (f) : (sPart c p f : sProp 𝕄) = iprop(emp) := by
  unfold sPart; rw [rows640_none p h]; exact pointsTo_empty
theorem rPart_none (h : ∀ n, n < 32 → ¬ p n) (f) : (rPart c p f : sProp 𝕄) = iprop(emp) := by
  unfold rPart; rw [rows640_none p h]; exact pointsTo_empty
theorem ePart_none (h : ∀ n, n < 32 → ¬ p n) (f) : (ePart c p f : sProp 𝕄) = iprop(emp) := by
  unfold ePart; rw [rows1024_none p h]; exact pointsTo_empty
theorem bPart_none (h : ∀ n, n < 32 → ¬ p n) (f) : (bPart c p f : sProp 𝕄) = iprop(emp) := by
  unfold bPart; rw [rows1024_none p h]; exact pointsTo_empty

/-- A buffer is its 32 blocks. -/
theorem rows640_blocks : (Finset.univ : Finset S32x64x640.Idx) = (Finset.univ : Finset (Fin 32)).biUnion fun j => rows640 (· = j.val) := by
  ext i
  simp only [Finset.mem_univ, true_iff, Finset.mem_biUnion, true_and]
  exact ⟨i (0 : Fin 3), (mem_rows640 _ i).mpr rfl⟩
theorem rows1024_blocks : (Finset.univ : Finset S32x64x1024.Idx) = (Finset.univ : Finset (Fin 32)).biUnion fun j => rows1024 (· = j.val) := by
  ext i
  simp only [Finset.mem_univ, true_iff, Finset.mem_biUnion, true_and]
  exact ⟨i (0 : Fin 3), (mem_rows1024 _ i).mpr rfl⟩

theorem sPart_blocks (f : Buf (Elt F) ((c : Thread nD τ).loc cc0_scratch0)) :
    (((c : Thread nD τ).loc cc0_scratch0) ↦{fullShare} f : sProp 𝕄) = bigSep Finset.univ fun j : Fin 32 => sPart c (· = j.val) f := by
  show (((c : Thread nD τ).loc cc0_scratch0) ↦[(Finset.univ : Finset S32x64x640.Idx)]{fullShare} f : sProp 𝕄) = _
  rw [rows640_blocks]; unfold sPart
  exact pointsTo_biUnion _ _ fun j _ j' _ hne => rows640_disj _ _ fun n h h' => hne (Fin.ext (h.symm.trans h'))
theorem rPart_blocks (f : Buf (Elt F) ((c : Thread nD τ).loc cc0_scratch1)) :
    (((c : Thread nD τ).loc cc0_scratch1) ↦{fullShare} f : sProp 𝕄) = bigSep Finset.univ fun j : Fin 32 => rPart c (· = j.val) f := by
  show (((c : Thread nD τ).loc cc0_scratch1) ↦[(Finset.univ : Finset S32x64x640.Idx)]{fullShare} f : sProp 𝕄) = _
  rw [rows640_blocks]; unfold rPart
  exact pointsTo_biUnion _ _ fun j _ j' _ hne => rows640_disj _ _ fun n h h' => hne (Fin.ext (h.symm.trans h'))
theorem ePart_blocks (f : Buf (Elt F) ((c : Thread nD τ).loc cc0_scratch2)) :
    (((c : Thread nD τ).loc cc0_scratch2) ↦{fullShare} f : sProp 𝕄) = bigSep Finset.univ fun j : Fin 32 => ePart c (· = j.val) f := by
  show (((c : Thread nD τ).loc cc0_scratch2) ↦[(Finset.univ : Finset S32x64x1024.Idx)]{fullShare} f : sProp 𝕄) = _
  rw [rows1024_blocks]; unfold ePart
  exact pointsTo_biUnion _ _ fun j _ j' _ hne => rows1024_disj _ _ fun n h h' => hne (Fin.ext (h.symm.trans h'))
theorem bPart_blocks (f : Buf (Elt F) ((c : Thread nD τ).loc cc0_scratch3)) :
    (((c : Thread nD τ).loc cc0_scratch3) ↦{fullShare} f : sProp 𝕄) = bigSep Finset.univ fun j : Fin 32 => bPart c (· = j.val) f := by
  show (((c : Thread nD τ).loc cc0_scratch3) ↦[(Finset.univ : Finset S32x64x1024.Idx)]{fullShare} f : sProp 𝕄) = _
  rw [rows1024_blocks]; unfold bPart
  exact pointsTo_biUnion _ _ fun j _ j' _ hne => rows1024_disj _ _ fun n h h' => hne (Fin.ext (h.symm.trans h'))

theorem sPart_all (h : ∀ n, n < 32 → p n) (f : Buf (Elt F) ((c : Thread nD τ).loc cc0_scratch0)) :
    (sPart c p f : sProp 𝕄) = ((c : Thread nD τ).loc cc0_scratch0) ↦{fullShare} f := by
  unfold sPart; rw [rows640_all p h]
theorem rPart_all (h : ∀ n, n < 32 → p n) (f : Buf (Elt F) ((c : Thread nD τ).loc cc0_scratch1)) :
    (rPart c p f : sProp 𝕄) = ((c : Thread nD τ).loc cc0_scratch1) ↦{fullShare} f := by
  unfold rPart; rw [rows640_all p h]
theorem ePart_all (h : ∀ n, n < 32 → p n) (f : Buf (Elt F) ((c : Thread nD τ).loc cc0_scratch2)) :
    (ePart c p f : sProp 𝕄) = ((c : Thread nD τ).loc cc0_scratch2) ↦{fullShare} f := by
  unfold ePart; rw [rows1024_all p h]
theorem bPart_all (h : ∀ n, n < 32 → p n) (f : Buf (Elt F) ((c : Thread nD τ).loc cc0_scratch3)) :
    (bPart c p f : sProp 𝕄) = ((c : Thread nD τ).loc cc0_scratch3) ↦{fullShare} f := by
  unfold bPart; rw [rows1024_all p h]

end Split

end Cert.KernelIdeal.Moe

end

end
-- ==== Proof.KernelIdeal.State.lean ====
module

public import proofs.«01_k».proof.Proof.KernelIdeal.Geometry

/-!
# What a device holds between two operations of the kernel

The program is a long line of signals, loads, stores, copies and waits. What a device holds in between depends
only on how many of each kind are behind it, so one assertion over a few counters describes every point.
-/

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A cell of the mesh: a device, and its barrier or one of its transfer semaphores. -/
abbrev CellIx : Type := Dev nD × Option (Fin 4 × Fin 32)
abbrev cellAt (p : CellIx) : GSem nD τ sig := match p.2 with
  | none => barCell p.1
  | some (k, j) => xCell p.1 k j

variable (K : CellIx → ℕ) (c : Dev nD)

/-- Every cell's invariant, and that its round has begun. -/
def recs : sProp 𝕄 := bigSep Finset.univ fun p : CellIx => iprop(cellInv ER (rd m) (K p) (cellAt p) ∗ reached ER (cellAt p) 0)

instance recs_persistent : BI.Persistent (recs m K) := by unfold recs; infer_instance

theorem recs_bar : (recs m K : sProp 𝕄) ⊢ iprop(cellInv ER (rd m) (K (c, none)) (barCell c) ∗ reached ER (barCell c) 0) :=
  bigSep_elim (Finset.mem_univ ((c, none) : CellIx))
theorem recs_x (k : Fin 4) (j : Fin 32) :
    (recs m K : sProp 𝕄) ⊢ iprop(cellInv ER (rd m) (K (c, some (k, j))) (xCell c k j) ∗ reached ER (xCell c k j) 0) :=
  bigSep_elim (Finset.mem_univ ((c, some (k, j)) : CellIx))

/-! ## The parts of the state -/

/-- Distance `j` on the way out, on the sending side: to be sent, sent and not waited for, or waited for. -/
def outFam (d w : ℕ) (j : Fin 32) : sProp 𝕄 :=
  if j.val < w then iprop(semVal (xCell c 0 j) 0 ∗ sPart c (· = j.val) (sendAll m c))
  else iprop(atPos ER (xCell c 0 j) 0 ∅ 0 ∗ if j.val < d then cred (tallyAt (xCell c 0 j) () N₁)
    else iprop((∃ f, rPart (fwd c j) (· = j.val) f) ∗ dutyTok ER (xCell c 0 j) 0 0 ∗ dutyTok ER (xCell (fwd c j) 1 j) 0 0))
/-- The same on the way back. -/
def backFam (d w : ℕ) (j : Fin 32) : sProp 𝕄 :=
  if j.val < w then iprop(semVal (xCell c 2 j) 0 ∗ ePart c (· = j.val) (resAll m c))
  else iprop(atPos ER (xCell c 2 j) 0 ∅ 0 ∗ if j.val < d then cred (tallyAt (xCell c 2 j) () N₂)
    else iprop((∃ f, bPart (bwd c j) (· = j.val) f) ∗ dutyTok ER (xCell c 2 j) 0 0 ∗ dutyTok ER (xCell (bwd c j) 3 j) 0 0))
/-- Distance `j` on the receiving side (kind 1 or 3): not waited for, or waited for. -/
def recvFam (k : Fin 4) (r : ℕ) (j : Fin 32) : sProp 𝕄 :=
  if j.val < r then semVal (xCell c k j) 0
  else iprop(atPos ER (xCell c k j) 0 ∅ 0 ∗ cred (tallyAt (xCell c k j) () (credit k)))

/-- The unsent part of the send buffer, computed below block `n`. -/
def sendP (n d : ℕ) : sProp 𝕄 :=
  iprop(∃ f, ⌜∀ i : S32x64x640.Idx, (i (0 : Fin 3)).val < n → f i = sendAll m c i⌝ ∗ sPart c (d ≤ ·) f)
/-- The unsent part of the result buffer, computed below block `n`. -/
def resP (n d : ℕ) : sProp 𝕄 :=
  iprop(∃ f, ⌜∀ i : S32x64x1024.Idx, (i (0 : Fin 3)).val < n → f i = resAll m c i⌝ ∗ ePart c (d ≤ ·) f)

/-- The staged arguments. -/
def inputs : sProp 𝕄 :=
  iprop((((c : Thread nD τ).loc cc0_stg0_0) ↦{fullShare} (xin m c : Buf (Elt F) ((c : Thread nD τ).loc cc0_stg0_0)))
    ∗ (((c : Thread nD τ).loc cc0_stg1_0) ↦{fullShare} (rwin m c : Buf (Elt F) ((c : Thread nD τ).loc cc0_stg1_0)))
    ∗ (((c : Thread nD τ).loc cc0_stg2_0) ↦{fullShare} (rtin m c : Buf (Elt F) ((c : Thread nD τ).loc cc0_stg2_0)))
    ∗ (((c : Thread nD τ).loc cc0_stg3_0) ↦{fullShare} (ewin m c : Buf (Elt F) ((c : Thread nD τ).loc cc0_stg3_0)))
    ∗ (((c : Thread nD τ).loc cc0_stg4_0) ↦{fullShare} (swin m c : Buf (Elt F) ((c : Thread nD τ).loc cc0_stg4_0))))

/-- The result's buffer: anything, then the shared expert, then the whole result. -/
def outP (o : ℕ) : sProp 𝕄 := match o with
  | 0 => iprop(∃ f, ((c : Thread nD τ).loc cc0_stg5_0) ↦{fullShare} f)
  | 1 => ((c : Thread nD τ).loc cc0_stg5_0) ↦{fullShare} (sharedOut m c : Buf (Elt F) ((c : Thread nD τ).loc cc0_stg5_0))
  | _ => ((c : Thread nD τ).loc cc0_stg5_0) ↦{fullShare} (outAt m c : Buf (Elt F) ((c : Thread nD τ).loc cc0_stg5_0))

/-- What distance `j`'s signal spends: its right to signal, and the two blocks it hands over. -/
def giveFam (j : Fin 32) : sProp 𝕄 :=
  iprop(dutyTok ER (barCell (fwd c j)) 0 j ∗ (∃ f, rPart c (· = (opp j).val) f) ∗ ∃ f, bPart c (· = j.val) f)
/-- What the device holds of distance `j` before the barrier, on the sending side, out and back. -/
def outFam₀ (j : Fin 32) : sProp 𝕄 :=
  iprop(atPos ER (xCell c 0 j) 0 ∅ 0 ∗ dutyTok ER (xCell c 0 j) 0 0 ∗ dutyTok ER (xCell (fwd c j) 1 j) 0 0)
def backFam₀ (j : Fin 32) : sProp 𝕄 :=
  iprop(atPos ER (xCell c 2 j) 0 ∅ 0 ∗ dutyTok ER (xCell c 2 j) 0 0 ∗ dutyTok ER (xCell (bwd c j) 3 j) 0 0)

/-- Before the barrier, distances below `s` signalled. -/
def Pre (s : ℕ) : sProp 𝕄 :=
  iprop(recs m K ∗ levAts L lv ∗ (∃ W, owes (c : Thread nD τ) (owing c s 0 0) W) ∗ inputs m c ∗ outP m c 0
    ∗ (atPos ER (barCell c) 0 ∅ 0 ∗ cred (tallyAt (barCell c) () 31)) ∗ bigSep (frm s) (giveFam c)
    ∗ ((∃ f, rPart c (· = 0) f) ∗ ∃ f, bPart c (· = 0) f)
    ∗ bigSep Finset.univ (outFam₀ c) ∗ bigSep Finset.univ (backFam₀ c)
    ∗ bigSep Finset.univ (recvFam c 1 0) ∗ bigSep Finset.univ (recvFam c 3 0)
    ∗ sendP m c 0 0 ∗ resP m c 0 0)

/-- After the barrier: blocks below `n` computed, below `d` sent, `w` of these waited for, `r` received; results of
    blocks below `l` computed, below `e` sent back, `v` of these waited for, `u` received; the result's buffer at `o`. -/
def St (n d w r l e v u o : ℕ) : sProp 𝕄 :=
  iprop(recs m K ∗ levAts L lv ∗ (∃ W, owes (c : Thread nD τ) (owing c 32 d e) W) ∗ inputs m c ∗ outP m c o ∗ semVal (barCell c) 0
    ∗ bigSep Finset.univ (outFam m c d w) ∗ bigSep Finset.univ (backFam m c e v)
    ∗ bigSep Finset.univ (recvFam c 1 r) ∗ bigSep Finset.univ (recvFam c 3 u)
    ∗ sendP m c n d ∗ rPart c (· < r) (recvAll m c) ∗ resP m c l e ∗ bPart c (· < u) (backAll m c))

/-! ## Opening a family at one distance -/

omit [FloatOps F] in
theorem fam_at (Φ Ψ : Fin 32 → sProp 𝕄) (i : Fin 32) (h : ∀ j, j ≠ i → Φ j = Ψ j) :
    bigSep Finset.univ Φ ⊢ iprop(Φ i ∗ (Ψ i -∗ bigSep Finset.univ Ψ)) := by
  rw [bigSep_univ_at Φ i, bigSep_univ_at Ψ i, bigSep_congr (s := Finset.univ.erase i) fun j hj => h j (Finset.ne_of_mem_erase hj)]
  iintro ⟨H, HR⟩
  isplitl [H]; · iexact H
  iintro H'
  isplitl [H']; · iexact H'
  iexact HR

theorem ne_mk {j : Fin 32} {d : ℕ} {h : d < 32} (hj : j ≠ ⟨d, h⟩) : j.val ≠ d := fun h' => hj (Fin.ext h')

/-- One more block sent. -/
theorem outFam_sent (d w : ℕ) (h : d < 32) (hw : w ≤ d) :
    bigSep Finset.univ (outFam m c d w) ⊢ iprop((atPos ER (xCell c 0 ⟨d, h⟩) 0 ∅ 0
      ∗ (∃ f, rPart (fwd c ⟨d, h⟩) (· = d) f) ∗ dutyTok ER (xCell c 0 ⟨d, h⟩) 0 0 ∗ dutyTok ER (xCell (fwd c ⟨d, h⟩) 1 ⟨d, h⟩) 0 0)
      ∗ ((atPos ER (xCell c 0 ⟨d, h⟩) 0 ∅ 0 ∗ cred (tallyAt (xCell c 0 ⟨d, h⟩) () N₁)) -∗ bigSep Finset.univ (outFam m c (d + 1) w))) := by
  have h1 : outFam m c d w ⟨d, h⟩ = iprop(atPos ER (xCell c 0 ⟨d, h⟩) 0 ∅ 0
      ∗ (∃ f, rPart (fwd c ⟨d, h⟩) (· = d) f) ∗ dutyTok ER (xCell c 0 ⟨d, h⟩) 0 0 ∗ dutyTok ER (xCell (fwd c ⟨d, h⟩) 1 ⟨d, h⟩) 0 0) := by
    unfold outFam; rw [if_neg (show ¬ d < w by omega), if_neg (show ¬ d < d by omega)]
  have h2 : outFam m c (d + 1) w ⟨d, h⟩ = iprop(atPos ER (xCell c 0 ⟨d, h⟩) 0 ∅ 0 ∗ cred (tallyAt (xCell c 0 ⟨d, h⟩) () N₁)) := by
    unfold outFam; rw [if_neg (show ¬ d < w by omega), if_pos (show d < d + 1 by omega)]
  have := fam_at (outFam m c d w) (outFam m c (d + 1) w) ⟨d, h⟩ fun j hj => by
    have hj := ne_mk hj
    unfold outFam
    by_cases hjd : j.val < d
    · rw [if_pos hjd, if_pos (show j.val < d + 1 by omega)]
    · rw [if_neg hjd, if_neg (show ¬ j.val < d + 1 by omega)]
  rw [h1, h2] at this; exact this

theorem backFam_sent (d w : ℕ) (h : d < 32) (hw : w ≤ d) :
    bigSep Finset.univ (backFam m c d w) ⊢ iprop((atPos ER (xCell c 2 ⟨d, h⟩) 0 ∅ 0
      ∗ (∃ f, bPart (bwd c ⟨d, h⟩) (· = d) f) ∗ dutyTok ER (xCell c 2 ⟨d, h⟩) 0 0 ∗ dutyTok ER (xCell (bwd c ⟨d, h⟩) 3 ⟨d, h⟩) 0 0)
      ∗ ((atPos ER (xCell c 2 ⟨d, h⟩) 0 ∅ 0 ∗ cred (tallyAt (xCell c 2 ⟨d, h⟩) () N₂)) -∗ bigSep Finset.univ (backFam m c (d + 1) w))) := by
  have h1 : backFam m c d w ⟨d, h⟩ = iprop(atPos ER (xCell c 2 ⟨d, h⟩) 0 ∅ 0
      ∗ (∃ f, bPart (bwd c ⟨d, h⟩) (· = d) f) ∗ dutyTok ER (xCell c 2 ⟨d, h⟩) 0 0 ∗ dutyTok ER (xCell (bwd c ⟨d, h⟩) 3 ⟨d, h⟩) 0 0) := by
    unfold backFam; rw [if_neg (show ¬ d < w by omega), if_neg (show ¬ d < d by omega)]
  have h2 : backFam m c (d + 1) w ⟨d, h⟩ = iprop(atPos ER (xCell c 2 ⟨d, h⟩) 0 ∅ 0 ∗ cred (tallyAt (xCell c 2 ⟨d, h⟩) () N₂)) := by
    unfold backFam; rw [if_neg (show ¬ d < w by omega), if_pos (show d < d + 1 by omega)]
  have := fam_at (backFam m c d w) (backFam m c (d + 1) w) ⟨d, h⟩ fun j hj => by
    have hj := ne_mk hj
    unfold backFam
    by_cases hjd : j.val < d
    · rw [if_pos hjd, if_pos (show j.val < d + 1 by omega)]
    · rw [if_neg hjd, if_neg (show ¬ j.val < d + 1 by omega)]
  rw [h1, h2] at this; exact this

/-- One more sent block waited for. -/
theorem outFam_waited (d w : ℕ) (h : w < 32) (hw : w < d) :
    bigSep Finset.univ (outFam m c d w) ⊢ iprop((atPos ER (xCell c 0 ⟨w, h⟩) 0 ∅ 0 ∗ cred (tallyAt (xCell c 0 ⟨w, h⟩) () N₁))
      ∗ ((semVal (xCell c 0 ⟨w, h⟩) 0 ∗ sPart c (· = w) (sendAll m c)) -∗ bigSep Finset.univ (outFam m c d (w + 1)))) := by
  have h1 : outFam m c d w ⟨w, h⟩ = iprop(atPos ER (xCell c 0 ⟨w, h⟩) 0 ∅ 0 ∗ cred (tallyAt (xCell c 0 ⟨w, h⟩) () N₁)) := by
    unfold outFam; rw [if_neg (show ¬ w < w by omega), if_pos (show w < d by omega)]
  have h2 : outFam m c d (w + 1) ⟨w, h⟩ = iprop(semVal (xCell c 0 ⟨w, h⟩) 0 ∗ sPart c (· = w) (sendAll m c)) := by
    unfold outFam; rw [if_pos (show w < w + 1 by omega)]
  have := fam_at (outFam m c d w) (outFam m c d (w + 1)) ⟨w, h⟩ fun j hj => by
    have hj := ne_mk hj
    unfold outFam
    by_cases hjd : j.val < w
    · rw [if_pos hjd, if_pos (show j.val < w + 1 by omega)]
    · rw [if_neg hjd, if_neg (show ¬ j.val < w + 1 by omega)]
  rw [h1, h2] at this; exact this

theorem backFam_waited (d w : ℕ) (h : w < 32) (hw : w < d) :
    bigSep Finset.univ (backFam m c d w) ⊢ iprop((atPos ER (xCell c 2 ⟨w, h⟩) 0 ∅ 0 ∗ cred (tallyAt (xCell c 2 ⟨w, h⟩) () N₂))
      ∗ ((semVal (xCell c 2 ⟨w, h⟩) 0 ∗ ePart c (· = w) (resAll m c)) -∗ bigSep Finset.univ (backFam m c d (w + 1)))) := by
  have h1 : backFam m c d w ⟨w, h⟩ = iprop(atPos ER (xCell c 2 ⟨w, h⟩) 0 ∅ 0 ∗ cred (tallyAt (xCell c 2 ⟨w, h⟩) () N₂)) := by
    unfold backFam; rw [if_neg (show ¬ w < w by omega), if_pos (show w < d by omega)]
  have h2 : backFam m c d (w + 1) ⟨w, h⟩ = iprop(semVal (xCell c 2 ⟨w, h⟩) 0 ∗ ePart c (· = w) (resAll m c)) := by
    unfold backFam; rw [if_pos (show w < w + 1 by omega)]
  have := fam_at (backFam m c d w) (backFam m c d (w + 1)) ⟨w, h⟩ fun j hj => by
    have hj := ne_mk hj
    unfold backFam
    by_cases hjd : j.val < w
    · rw [if_pos hjd, if_pos (show j.val < w + 1 by omega)]
    · rw [if_neg hjd, if_neg (show ¬ j.val < w + 1 by omega)]
  rw [h1, h2] at this; exact this

omit [FloatOps F] in
/-- One more arrival waited for. -/
theorem recvFam_waited (k : Fin 4) (r : ℕ) (h : r < 32) :
    bigSep Finset.univ (recvFam (F := F) c k r) ⊢ iprop((atPos ER (xCell c k ⟨r, h⟩) 0 ∅ 0 ∗ cred (tallyAt (xCell c k ⟨r, h⟩) () (credit k)))
      ∗ (semVal (xCell c k ⟨r, h⟩) 0 -∗ bigSep Finset.univ (recvFam (F := F) c k (r + 1)))) := by
  have h1 : recvFam (F := F) c k r ⟨r, h⟩ = iprop(atPos ER (xCell c k ⟨r, h⟩) 0 ∅ 0 ∗ cred (tallyAt (xCell c k ⟨r, h⟩) () (credit k))) := by
    unfold recvFam; rw [if_neg (show ¬ r < r by omega)]
  have h2 : recvFam (F := F) c k (r + 1) ⟨r, h⟩ = semVal (xCell c k ⟨r, h⟩) 0 := by
    unfold recvFam; rw [if_pos (show r < r + 1 by omega)]
  have := fam_at (recvFam (F := F) c k r) (recvFam c k (r + 1)) ⟨r, h⟩ fun j hj => by
    have hj := ne_mk hj
    unfold recvFam
    by_cases hjd : j.val < r
    · rw [if_pos hjd, if_pos (show j.val < r + 1 by omega)]
    · rw [if_neg hjd, if_neg (show ¬ j.val < r + 1 by omega)]
  rw [h1, h2] at this; exact this

end Cert.KernelIdeal.Moe

end

end
-- ==== Proof.KernelIdeal.Ghost.lean ====
module

public import proofs.«01_k».proof.Proof.KernelIdeal.State

/-!
# What the launch deals out

Every cell is minted with its round and the rights to pay into it. A right is minted at the cell it pays into and
dealt to the device that pays.
-/

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cells and rights, as minted -/

/-- The kernel's own semaphores: the transfers'. -/
def osem (p : Fin 4 × Fin 32) : SemLoc sig := .dma (qsem p.1 p.2)

def unCell (g : GSem nD τ sig) : CellIx := (g.1.1, match g.2 with
  | .reg _ => none
  | .dma q => some (kindOf q, distOf q))
theorem unCell_cellAt : Function.LeftInverse unCell cellAt := by
  rintro ⟨c, _ | ⟨k, j⟩⟩
  · rfl
  · show (c, some (kindOf (qsem k j), distOf (qsem k j))) = _; rw [kindOf_qsem, distOf_qsem]
def allCells : Finset (GSem nD τ sig) := Finset.univ.map ⟨cellAt, unCell_cellAt.injective⟩

/-- The rights of a device's cells: one per transfer, and one per distance at the barrier. -/
abbrev TokIx : Type := Dev nD × ((Fin 4 × Fin 32) ⊕ Fin 32)
abbrev tokAt (p : TokIx) : GSem nD τ sig × ℕ × Fin 32 := match p.2 with
  | .inl q => (xCell p.1 q.1 q.2, 0, 0)
  | .inr d => (barCell p.1, 0, d)
def unTok (t : GSem nD τ sig × ℕ × Fin 32) : TokIx := (t.1.1.1, match t.1.2 with
  | .reg _ => .inr t.2.2
  | .dma q => .inl (kindOf q, distOf q))
theorem unTok_tokAt : Function.LeftInverse unTok tokAt := by
  rintro ⟨c, ⟨k, j⟩ | d⟩
  · show (c, Sum.inl (kindOf (qsem k j), distOf (qsem k j))) = _; rw [kindOf_qsem, distOf_qsem]
  · rfl
def allToks : Finset (GSem nD τ sig × ℕ × Fin 32) := Finset.univ.map ⟨tokAt, unTok_tokAt.injective⟩

def u₀ : UU := (initOf (Pipeline.cells cfgs cellOf_inj) (Pipeline.launchToks cfgs cellOf_inj), initOf allCells allToks)

/-- The rights to pay into device `c`'s own cells. -/
def toks (c : Dev nD) : sProp 𝕄 :=
  iprop((bigSep Finset.univ fun q : Fin 4 × Fin 32 => dutyTok ER (xCell c q.1 q.2) 0 0)
    ∗ bigSep Finset.univ fun d : Fin 32 => dutyTok ER (barCell c) 0 d)

/-- What device `c` is dealt of the minted state, and what the mesh makes of it together. -/
def G (c : Dev nD) : sProp 𝕄 :=
  iprop((bigSep Finset.univ fun k : Option (Fin 4 × Fin 32) => roundState ER (rd m) (cellAt (c, k)) 0)
    ∗ (bigSep Finset.univ fun k : Option (Fin 4 × Fin 32) => iprop(atPos ER (cellAt (c, k)) 0 ∅ 0 ∗ reached ER (cellAt (c, k)) 0)) ∗ toks c)

/-- The rights device `c` pays with. -/
def payToks (c : Dev nD) : sProp 𝕄 :=
  iprop((bigSep Finset.univ fun j : Fin 32 => dutyTok ER (barCell (fwd c j)) 0 j)
    ∗ (bigSep Finset.univ fun j : Fin 32 => dutyTok ER (xCell c 0 j) 0 0)
    ∗ (bigSep Finset.univ fun j : Fin 32 => dutyTok ER (xCell (fwd c j) 1 j) 0 0)
    ∗ (bigSep Finset.univ fun j : Fin 32 => dutyTok ER (xCell c 2 j) 0 0)
    ∗ (bigSep Finset.univ fun j : Fin 32 => dutyTok ER (xCell (bwd c j) 3 j) 0 0))
def linear (c : Dev nD) : sProp 𝕄 :=
  iprop((bigSep Finset.univ fun k : Option (Fin 4 × Fin 32) => atPos ER (cellAt (c, k)) 0 ∅ 0) ∗ payToks c)
def G' (c : Dev nD) : sProp 𝕄 := iprop(∃ K, recs m K ∗ linear c)

theorem fund_all : BI.own (ER (initOf allCells allToks)) ⊢ (|==> bigSep Finset.univ (G m) : sProp 𝕄) := by
  have hX (Φ : GSem nD τ sig → sProp 𝕄) : bigSep allCells Φ
      = bigSep Finset.univ fun c : Dev nD => bigSep Finset.univ fun k : Option (Fin 4 × Fin 32) => Φ (cellAt (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem ownSems0_eq (c : Dev nD) : (Pipeline.ownSems0 (Ix := Unit) (Name := ℕ) (U := UU) (Lvl := ℕ) (Val := Elt F) (τ := τ) osem c : sProp 𝕄)
    = bigSep Finset.univ fun p : Fin 4 × Fin 32 => semVal (xCell c p.1 p.2) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over a device's cells is the barrier's member and the transfers'. -/
theorem bigSep_cells (Φ : Option (Fin 4 × Fin 32) → sProp 𝕄) :
    bigSep Finset.univ Φ = iprop(Φ none ∗ bigSep Finset.univ fun p => Φ (some p)) := by
  rw [bigSep_univ_at Φ none, show (Finset.univ.erase none : Finset (Option (Fin 4 × Fin 32))) = Finset.univ.map ⟨some, Option.some_injective _⟩ from by
    ext x; rcases x with _ | x <;> simp, bigSep_map]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (cellAt (c, k))))
          ∗ (bigSep Finset.univ fun k => iprop(atPos ER (cellAt (c, k)) 0 ∅ 0 ∗ reached ER (cellAt (c, k)) 0)) ∗ toks c) := by
  have hv : iprop(Pipeline.ownSems0 (Ix := Unit) (Name := ℕ) (U := UU) (Lvl := ℕ) (Val := Elt F) (τ := τ) osem c ∗ unscopedSems0 c)
      ⊢ (bigSep Finset.univ fun k => semVal (cellAt (c, k)) 0 : sProp 𝕄) := by
    rw [ownSems0_eq, unscopedSems0_eq, bigSep_cells]
    iintro ⟨HX, HB⟩
    isplitl [HB] <;> iassumption
  have hk : ∀ k, iprop(semVal (cellAt (c, k)) 0 ∗ roundState ER (rd m) (cellAt (c, k)) 0)
      ⊢ (|={Set.univ}=> iprop(∃ κ : ℕ, cellInv ER (rd m) κ (cellAt (c, k))) : sProp 𝕄) :=
    fun k => (Rounds.body_intro ER (rd m) (cellAt (c, k))).trans inv_alloc
  have hi : iprop((bigSep Finset.univ fun k => semVal (cellAt (c, k)) 0) ∗ bigSep Finset.univ fun k => roundState ER (rd m) (cellAt (c, k)) 0)
      ⊢ (|={Set.univ}=> bigSep Finset.univ fun k => iprop(∃ κ : ℕ, cellInv ER (rd m) κ (cellAt (c, k))) : sProp 𝕄) := by
    rw [← bigSep_sep']
    exact BI.Entails.trans (bigSep_mono fun k _ => hk k) (bigSep_fupd _ _)
  unfold G
  iintro ⟨Hos, Hus, Hst, Hat, Htok⟩
  ihave Hv := hv $$ [Hos Hus]
  · isplitl [Hos] <;> iassumption
  imod hi $$ [Hv Hst] with Hinv
  · isplitl [Hv] <;> iassumption
  imodintro
  isplitl [Hinv]; · iexact Hinv
  isplitl [Hat]; · iexact Hat
  iexact Htok

/-! ## Dealing the rights -/

/-- A family of rights over the mesh, each moved `j` steps. -/
theorem deal_fwd (Φ : Dev nD → Fin 32 → sProp 𝕄) :
    (bigSep Finset.univ fun c => bigSep Finset.univ fun j => Φ c j) = bigSep Finset.univ fun c => bigSep Finset.univ fun j => Φ (fwd c j) j := by
  rw [bigSep_univ_comm, bigSep_univ_comm (fun c j => Φ (fwd c j) j)]
  exact bigSep_congr fun j _ => bigSep_univ_equiv (shift j) fun c => Φ c j
theorem deal_bwd (Φ : Dev nD → Fin 32 → sProp 𝕄) :
    (bigSep Finset.univ fun c => bigSep Finset.univ fun j => Φ c j) = bigSep Finset.univ fun c => bigSep Finset.univ fun j => Φ (bwd c j) j := by
  rw [bigSep_univ_comm, bigSep_univ_comm (fun c j => Φ (bwd c j) j)]
  exact bigSep_congr fun j _ => bigSep_univ_equiv (shift j).symm fun c => Φ c j

theorem bigSep_kinds (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem toks_around : (bigSep Finset.univ fun c : Dev nD => (toks c : sProp 𝕄)) ⊢ bigSep Finset.univ fun c : Dev nD => payToks c := by
  have h : (bigSep Finset.univ fun c : Dev nD => (toks c : sProp 𝕄))
      = bigSep Finset.univ fun c : Dev nD => iprop(((bigSep Finset.univ fun j : Fin 32 => dutyTok ER (xCell c 0 j) 0 0)
          ∗ (bigSep Finset.univ fun j : Fin 32 => dutyTok ER (xCell c 1 j) 0 0)
          ∗ (bigSep Finset.univ fun j : Fin 32 => dutyTok ER (xCell c 2 j) 0 0)
          ∗ (bigSep Finset.univ fun j : Fin 32 => dutyTok ER (xCell c 3 j) 0 0))
        ∗ bigSep Finset.univ fun d : Fin 32 => dutyTok ER (barCell c) 0 d) :=
    bigSep_congr fun c _ => by unfold toks; rw [bigSep_univ_prod, bigSep_kinds]
  rw [h]
  unfold payToks
  rw [bigSep_sep', bigSep_sep', bigSep_sep', bigSep_sep', bigSep_sep', bigSep_sep', bigSep_sep', bigSep_sep',
    deal_fwd fun c j => dutyTok ER (barCell c) 0 j, deal_fwd fun c j => dutyTok ER (xCell c 1 j) 0 0, deal_bwd fun c j => dutyTok ER (xCell c 3 j) 0 0]
  iintro ⟨⟨H0, H1, H2, H3⟩, HB⟩
  iframe HB H0 H1 H2 H3

theorem regroup :
    (bigSep Finset.univ fun c : Dev nD => iprop((bigSep Finset.univ fun k => iprop(∃ κ : ℕ, cellInv ER (rd m) κ (cellAt (c, k))))
          ∗ (bigSep Finset.univ fun k => iprop(atPos ER (cellAt (c, k)) 0 ∅ 0 ∗ reached ER (cellAt (c, k)) 0)) ∗ toks c) : sProp 𝕄)
      ⊢ bigSep Finset.univ (G' m) := by
  rw [bigSep_sep', bigSep_sep', ← bigSep_univ_prod (fun p : CellIx => iprop(∃ κ : ℕ, cellInv ER (rd m) κ (cellAt p))),
    bigSep_congr (s := Finset.univ) (fun (c : Dev nD) _ => bigSep_sep' Finset.univ (fun k => (atPos ER (cellAt (c, k)) 0 ∅ 0 : sProp 𝕄)) (fun k => reached ER (cellAt (c, k)) 0)),
    bigSep_sep', ← bigSep_univ_prod (fun p : CellIx => (reached ER (cellAt p) 0 : sProp 𝕄))]
  have hlin : iprop((bigSep Finset.univ fun c : Dev nD => bigSep Finset.univ fun k => (atPos ER (cellAt (c, k)) 0 ∅ 0 : sProp 𝕄))
      ∗ bigSep Finset.univ fun c : Dev nD => payToks c) ⊢ bigSep Finset.univ fun c : Dev nD => (linear c : sProp 𝕄) := by
    unfold linear; rw [bigSep_sep' Finset.univ (fun c : Dev nD => bigSep Finset.univ fun k => (atPos ER (cellAt (c, k)) 0 ∅ 0 : sProp 𝕄)) payToks]
  have hall : ∀ K, iprop(recs m K ∗ bigSep Finset.univ fun c : Dev nD => (linear c : sProp 𝕄)) ⊢ bigSep Finset.univ (G' m) := fun K => by
    have h1 : ∀ c, iprop(recs m K ∗ linear c) ⊢ (G' m c : sProp 𝕄) := fun c => by
      unfold G'; iintro H; iexists K; iexact H
    have h2 : iprop((bigSep Finset.univ fun _ : Dev nD => recs m K) ∗ bigSep Finset.univ fun c : Dev nD => (linear c : sProp 𝕄))
        ⊢ bigSep Finset.univ (G' m) := by
      rw [← bigSep_sep']; exact bigSep_mono fun c _ => h1 c
    iintro ⟨#HR, HL⟩
    iapply h2
    isplitr
    · iapply (BI.bigSep_of_persistent Finset.univ (recs m K)); iexact HR
    iexact HL
  iintro ⟨HI, ⟨Hat, HR⟩, Htok⟩
  ihave HK := (BI.bigSep_exists_pi Finset.univ (fun (p : CellIx) (κ : ℕ) => (cellInv ER (rd m) κ (cellAt p) : sProp 𝕄))) $$ HI
  icases HK with ⟨%K, HI⟩
  iapply (hall K)
  isplitl [HI HR]
  · unfold recs; rw [bigSep_sep']
    isplitl [HI]; · iexact HI
    iexact HR
  iapply hlin
  isplitl [Hat]; · iexact Hat
  iapply (toks_around (F := F)); iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  have h := core_alloc (F := F) m
  exact (BI.Entails.trans (bigSep_mono fun c _ => h c) (bigSep_fupd _ _)).trans (BI.fupd_mono (regroup m))

/-! ## The credit of the launch -/

/-- One unit family, summed over the mesh: each of the cells gets it once. -/
theorem sum_fwd (cell : Dev nD → GSem nD τ sig) (hc : Function.Injective cell) (j : Fin 32) (n : ℕ) (c : Dev nD) :
    (∑ d : Dev nD, (tallyAt (cell (fwd d j)) () n : CellTallies nD τ sig Unit) (cell c) ()) = n := by
  rw [Finset.sum_eq_single (bwd c j)]
  · rw [fwd_bwd, tallyAt_apply, if_pos ⟨rfl, rfl⟩]
  · intro d _ hd
    rw [tallyAt_apply, if_neg]
    rintro ⟨h, -⟩
    exact hd (by rw [hc h, bwd_fwd])
  · intro h; exact absurd (Finset.mem_univ _) h
theorem sum_bwd (cell : Dev nD → GSem nD τ sig) (hc : Function.Injective cell) (j : Fin 32) (n : ℕ) (c : Dev nD) :
    (∑ d : Dev nD, (tallyAt (cell (bwd d j)) () n : CellTallies nD τ sig Unit) (cell c) ()) = n := by
  rw [Finset.sum_eq_single (fwd c j)]
  · rw [bwd_fwd, tallyAt_apply, if_pos ⟨rfl, rfl⟩]
  · intro d _ hd
    rw [tallyAt_apply, if_neg]
    rintro ⟨h, -⟩
    exact hd (by rw [hc h, fwd_bwd])
  · intro h; exact absurd (Finset.mem_univ _) h

theorem barCell_inj : Function.Injective barCell := fun a b h => Fin.ext (congrArg (fun g : GSem nD τ sig => g.1.1.val) h)
theorem xCell_inj (k : Fin 4) (j : Fin 32) : Function.Injective fun c => xCell c k j :=
  fun a b h => Fin.ext (congrArg (fun g : GSem nD τ sig => g.1.1.val) h)

theorem sum_at (S : Finset (Fin 32)) (f : Fin 32 → CellTallies nD τ sig Unit) (g : GSem nD τ sig) : (∑ j ∈ S, f j) g () = ∑ j ∈ S, f j g () := by
  rw [Finset.sum_apply, Finsupp.finset_sum_apply]

theorem owing_at (d : Dev nD) (g : GSem nD τ sig) : owing d 1 0 0 g ()
    = (∑ j ∈ frm 1, (tallyAt (barCell (fwd d j)) () 1 : CellTallies nD τ sig Unit) g ())
      + (∑ j ∈ frm 0, (tallyAt (xCell (fwd d j) 1 j) () N₁ : CellTallies nD τ sig Unit) g ())
      + ∑ j ∈ frm 0, (tallyAt (xCell (bwd d j) 3 j) () N₂ : CellTallies nD τ sig Unit) g () := by
  unfold owing oweBar oweOut oweBack
  rw [Pi.add_apply, Finsupp.add_apply, Pi.add_apply, Finsupp.add_apply, sum_at, sum_at, sum_at]

theorem tally_off {g g' : GSem nD τ sig} (h : g'.2 ≠ g.2) (n : ℕ) : (tallyAt g () n : CellTallies nD τ sig Unit) g' () = 0 := by
  rw [tallyAt_apply, if_neg]; rintro ⟨rfl, -⟩; exact h rfl

theorem x_ne {k k' : Fin 4} {j j' : Fin 32} (h : ¬ (k = k' ∧ j = j')) : (SemLoc.dma (qsem k j) : SemLoc sig) ≠ .dma (qsem k' j') :=
  fun h' => h (qsem_inj (SemLoc.dma.inj h'))

theorem owed_bar (c : Dev nD) : ∑ d : Dev nD, owing d 1 0 0 (barCell c) () = 31 := by
  rw [Finset.sum_congr rfl fun d _ => show owing d 1 0 0 (barCell c) () = ∑ j ∈ frm 1, (tallyAt (barCell (fwd d j)) () 1 : CellTallies nD τ sig Unit) (barCell c) () from by
    rw [owing_at, Finset.sum_eq_zero (s := frm 0) fun j _ => tally_off (g := xCell (fwd d j) 1 j) (g' := barCell c) (by intro h; cases h) N₁,
      Finset.sum_eq_zero (s := frm 0) fun j _ => tally_off (g := xCell (bwd d j) 3 j) (g' := barCell c) (by intro h; cases h) N₂, Nat.add_zero, Nat.add_zero],
    Finset.sum_comm, Finset.sum_congr rfl fun j _ => sum_fwd barCell barCell_inj j 1 c, Finset.sum_const]
  rfl
theorem owed_out (c : Dev nD) (j : Fin 32) : ∑ d : Dev nD, owing d 1 0 0 (xCell c 1 j) () = N₁ := by
  rw [Finset.sum_congr rfl fun d _ => show owing d 1 0 0 (xCell c 1 j) () = (tallyAt (xCell (fwd d j) 1 j) () N₁ : CellTallies nD τ sig Unit) (xCell c 1 j) () from by
    rw [owing_at, Finset.sum_eq_zero (s := frm 1) fun i _ => tally_off (g := barCell (fwd d i)) (g' := xCell c 1 j) (by intro h; cases h) 1,
      Finset.sum_eq_zero (s := frm 0) fun i _ => tally_off (g := xCell (bwd d i) 3 i) (g' := xCell c 1 j) (x_ne fun h => absurd h.1 (by decide)) N₂,
      Nat.zero_add, Nat.add_zero,
      Finset.sum_eq_single j (fun i _ hi => tally_off (x_ne fun h => hi h.2.symm) N₁) fun h => absurd ((mem_frm 0 j).mpr (Nat.zero_le _)) h]]
  exact sum_fwd (fun c => xCell c 1 j) (xCell_inj 1 j) j N₁ c
theorem owed_back (c : Dev nD) (j : Fin 32) : ∑ d : Dev nD, owing d 1 0 0 (xCell c 3 j) () = N₂ := by
  rw [Finset.sum_congr rfl fun d _ => show owing d 1 0 0 (xCell c 3 j) () = (tallyAt (xCell (bwd d j) 3 j) () N₂ : CellTallies nD τ sig Unit) (xCell c 3 j) () from by
    rw [owing_at, Finset.sum_eq_zero (s := frm 1) fun i _ => tally_off (g := barCell (fwd d i)) (g' := xCell c 3 j) (by intro h; cases h) 1,
      Finset.sum_eq_zero (s := frm 0) fun i _ => tally_off (g := xCell (fwd d i) 1 i) (g' := xCell c 3 j) (x_ne fun h => absurd h.1 (by decide)) N₁,
      Nat.zero_add, Nat.zero_add,
      Finset.sum_eq_single j (fun i _ hi => tally_off (x_ne fun h => hi h.2.symm) N₂) fun h => absurd ((mem_frm 0 j).mpr (Nat.zero_le _)) h]]
  exact sum_bwd (fun c => xCell c 3 j) (xCell_inj 3 j) j N₂ c

/-- What every device owes at launch. -/
def O₀ (c : Dev nD) : CellTallies nD τ sig Unit := owing c 1 0 0

theorem launch_at (g : GSem nD τ sig) (n : ℕ) (h : ∑ d : Dev nD, owing d 1 0 0 g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same]; exact h

/-- The semaphores whose launch credit is used: the barrier's and the two receiving kinds'. -/
def usedSem : Option (Bool × Fin 32) → SemLoc sig
  | none => .reg barS
  | some (b, j) => .dma (qsem (if b then 3 else 1) j)
theorem usedSem_inj : Function.Injective usedSem := by
  rintro (_ | ⟨b, j⟩) (_ | ⟨b', j'⟩) h
  · rfl
  · cases h
  · cases h
  · have h' := qsem_inj (SemLoc.dma.inj h)
    rcases b <;> rcases b' <;> simp_all

theorem creds (c : Dev nD) : (Pipeline.launchCred O₀ c : sProp 𝕄) ⊢ iprop(cred (tallyAt (barCell c) () 31)
    ∗ (bigSep Finset.univ fun j : Fin 32 => cred (tallyAt (xCell c 1 j) () N₁)) ∗ bigSep Finset.univ fun j : Fin 32 => cred (tallyAt (xCell c 3 j) () N₂)) := by
  have h1 : (Pipeline.launchCred O₀ c : sProp 𝕄) ⊢ bigSep (Finset.univ.map ⟨usedSem, usedSem_inj⟩)
      fun sm => cred (tallyOn ((c : Thread nD τ), sm) (launchCredit (Pipeline.owing O₀) 0 ((c : Thread nD τ), sm))) :=
    bigSep_subset (Finset.subset_univ _)
  refine h1.trans (Entails.of_eq ?_)
  rw [bigSep_map, bigSep_univ_at _ none,
    show (Finset.univ.erase none : Finset (Option (Bool × Fin 32))) = Finset.univ.map ⟨some, Option.some_injective _⟩ from by
      ext x; rcases x with _ | x <;> simp,
    bigSep_map, bigSep_univ_prod, bigSep_univ_eq_bigSepL [false, true] (by decide) (by decide)]
  have e0 := launch_at (barCell c) 31 (owed_bar c)
  have e1 := fun j => launch_at (xCell c 1 j) N₁ (owed_out c j)
  have e3 := fun j => launch_at (xCell c 3 j) N₂ (owed_back c j)
  rw [← e0, bigSep_congr fun j _ => congrArg cred (e1 j).symm, bigSep_congr fun j _ => congrArg cred (e3 j).symm]
  rfl

end Cert.KernelIdeal.Moe

end

end
-- ==== Proof.KernelIdeal.Cells.lean ====
module

public import proofs.«01_k».proof.Proof.KernelIdeal.State

/-!
# One copy, one wait, one signal

The three synchronising operations, each on the cell it concerns, with what it takes and what it gives back.
-/

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CellIx → ℕ) (c : Dev nD)

/-- A program of device `c`'s, run to a postcondition. -/
abbrev run {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A step on part of a state is a step of the state. -/
theorem focus {S S' X X' A B : sProp 𝕄} (ho : S ⊢ iprop(X ∗ (X' -∗ S'))) (hr : X ⊢ iprop((X' -∗ A) -∗ B)) (H : S' ⊢ A) : S ⊢ B := by
  iintro HS
  ihave HS := ho $$ HS
  icases HS with ⟨HX, HS⟩
  iapply hr $$ HX
  iintro HX
  iapply H
  iapply HS
  iexact HX

theorem credit_out (j : ℕ) (h : j < 32) (a : Memref sig .tc .vmem S32x64x640 .bf16) : (blk640 a j h).view.dmaCredit = N₁ := rfl
theorem credit_back (j : ℕ) (h : j < 32) (a : Memref sig .tc .vmem S32x64x1024 .bf16) : (blk1024 a j h).view.dmaCredit = N₂ := rfl

/-- What lands on the device `j` steps ahead, and on the device `j` steps behind. -/
theorem recvAll_at (j : Fin 32) (i : S32x64x640.Idx) (hi : (i (0 : Fin 3)).val = j.val) : recvAll m (fwd c j) i = sendAll m c i := by
  have h : (i (0 : Fin 3) : Fin 32) = j := Fin.ext hi
  show sendAll m (bwd (fwd c j) (i (0 : Fin 3) : Fin 32)) i = _
  exact congrArg (fun x => sendAll m x i) ((congrArg (bwd (fwd c j)) h).trans (bwd_fwd c j))
theorem backAll_at (j : Fin 32) (i : S32x64x1024.Idx) (hi : (i (0 : Fin 3)).val = j.val) : backAll m (bwd c j) i = resAll m c i := by
  have h : (i (0 : Fin 3) : Fin 32) = j := Fin.ext hi
  show resAll m (fwd (bwd c j) (i (0 : Fin 3) : Fin 32)) i = _
  exact congrArg (fun x => resAll m x i) ((congrArg (fwd (bwd c j)) h).trans (fwd_bwd c j))

theorem credit_0 : credit 0 = N₁ := if_pos (by decide)
theorem credit_1 : credit 1 = N₁ := if_pos (by decide)
theorem credit_2 : credit 2 = N₂ := if_neg (by decide)
theorem credit_3 : credit 3 = N₂ := if_neg (by decide)

/-- The copy of a block to the device `d` steps ahead. -/
theorem send_out {d : ℕ} (h : d < 32) (e : ℕ) {dev : Dev nD} (hdev : dev = fwd c ⟨d, h⟩) {q₀ q₁ : DmaSem sig}
    (h₀ : q₀ = qsem 0 ⟨d, h⟩) (h₁ : q₁ = qsem 1 ⟨d, h⟩) {hsc : (blk640 rM d h).view.ref.isScScratch = false}
    {hsrc : (blk640 sM d h).view.WordExact} {hdst : (blk640 rM d h).view.WordExact}
    {hsem : DmaTarget.Typed .vmem (.dma q₁) (.remote (Dev.tc dev : Thread nD τ) (blk640 rM d h) (.dma q₀) hsc)}
    {α : Type} {k : PUnit → Prog (TpuEff nD τ sig (Elt F) Λ₀ .tc) α} {Q : α → sProp 𝕄} (fn) (W : Waits sig Unit) :
    iprop(cellInv ER (rd m) (K (c, some (0, ⟨d, h⟩))) (xCell c 0 ⟨d, h⟩) ∗ cellInv ER (rd m) (K (fwd c ⟨d, h⟩, some (1, ⟨d, h⟩))) (xCell (fwd c ⟨d, h⟩) 1 ⟨d, h⟩)
        ∗ sPart c (· = d) (sendAll m c) ∗ rPart (fwd c ⟨d, h⟩) (· = d) fn ∗ owes (c : Thread nD τ) (owing c 32 d e) W
        ∗ dutyTok ER (xCell c 0 ⟨d, h⟩) 0 0 ∗ reached ER (xCell c 0 ⟨d, h⟩) 0
        ∗ dutyTok ER (xCell (fwd c ⟨d, h⟩) 1 ⟨d, h⟩) 0 0 ∗ reached ER (xCell (fwd c ⟨d, h⟩) 1 ⟨d, h⟩) 0)
      ⊢ iprop(((cred (tallyAt (xCell c 0 ⟨d, h⟩) () N₁) ∗ owes (c : Thread nD τ) (owing c 32 (d + 1) e) W) -∗ run c (k ⟨⟩) Q)
          -∗ run c (.op (.enqueueDma (blk640 sM d h) (.remote (Dev.tc dev : Thread nD τ) (blk640 rM d h) (.dma q₀) hsc) (.dma q₁) hsrc hdst hsem) k) Q) := by
  subst hdev; subst h₀; subst h₁
  unfold sPart; rw [← set_blk0 d h]; unfold rPart; rw [← set_blk1 d h]
  have e₁ : iprop((blk640 sM d h).view.loc (c : Thread nD τ) ↦[(blk640 sM d h).view.set]{fullShare} sendAll m c) ⊢ (rd m).payload (xCell c 0 ⟨d, h⟩) 0 0 := by
    rw [payload_x]; unfold xPay sPart; rw [← set_blk0 d h]
  have e₂ : iprop((blk640 rM d h).view.loc (fwd c ⟨d, h⟩ : Thread nD τ) ↦[(blk640 rM d h).view.set]{fullShare}
      ((blk640 rM d h).view.write (Elt F) fn ((blk640 sM d h).view.read (Elt F) (sendAll m c)) Finset.univ)) ⊢ (rd m).payload (xCell (fwd c ⟨d, h⟩) 1 ⟨d, h⟩) 0 0 := by
    rw [payload_x, set_blk1 d h]
    refine Entails.of_eq (rPart_congr (fwd c ⟨d, h⟩) (· = d) fun i hi => ?_)
    rw [copy_out d h fn (sendAll m c) i hi]
    exact (recvAll_at m c ⟨d, h⟩ i hi).symm
  exact Rounds.wp_send_pointsTo 𝒱₀ ER (rd m) (c : Thread nD τ) none (c' := (fwd c ⟨d, h⟩ : Thread nD τ)) (src := blk640 sM d h) (dst := blk640 rM d h)
    (sS := .dma (qsem 0 ⟨d, h⟩)) (sem := .dma (qsem 1 ⟨d, h⟩)) (q := fullShare) (fs := sendAll m c) (κ₁ := K (c, some (0, ⟨d, h⟩))) (κ₂ := K (fwd c ⟨d, h⟩, some (1, ⟨d, h⟩)))
    (r₁ := 0) (r₂ := 0) (d₁ := 0) (d₂ := 0) (fd := fn)
    (by rw [duties_x]; exact Finset.mem_singleton_self _) (by rw [duties_x]; exact Finset.mem_singleton_self _)
    () () N₁ (credit_out d h rM) ((amount_x m _ _ _ _).trans credit_0) ((amount_x m _ _ _ _).trans credit_1) (owing c 32 (d + 1) e) (owing_out c 32 h e) (W := W)
    e₁ e₂

/-- The copy of a result block to the device `e` steps behind. -/
theorem send_back {e : ℕ} (h : e < 32) {dev : Dev nD} (hdev : dev = bwd c ⟨e, h⟩) {q₀ q₁ : DmaSem sig}
    (h₀ : q₀ = qsem 2 ⟨e, h⟩) (h₁ : q₁ = qsem 3 ⟨e, h⟩) {hsc : (blk1024 bM e h).view.ref.isScScratch = false}
    {hsrc : (blk1024 eM e h).view.WordExact} {hdst : (blk1024 bM e h).view.WordExact}
    {hsem : DmaTarget.Typed .vmem (.dma q₁) (.remote (Dev.tc dev : Thread nD τ) (blk1024 bM e h) (.dma q₀) hsc)}
    {α : Type} {k : PUnit → Prog (TpuEff nD τ sig (Elt F) Λ₀ .tc) α} {Q : α → sProp 𝕄} (fn) (W : Waits sig Unit) :
    iprop(cellInv ER (rd m) (K (c, some (2, ⟨e, h⟩))) (xCell c 2 ⟨e, h⟩) ∗ cellInv ER (rd m) (K (bwd c ⟨e, h⟩, some (3, ⟨e, h⟩))) (xCell (bwd c ⟨e, h⟩) 3 ⟨e, h⟩)
        ∗ ePart c (· = e) (resAll m c) ∗ bPart (bwd c ⟨e, h⟩) (· = e) fn ∗ owes (c : Thread nD τ) (owing c 32 32 e) W
        ∗ dutyTok ER (xCell c 2 ⟨e, h⟩) 0 0 ∗ reached ER (xCell c 2 ⟨e, h⟩) 0
        ∗ dutyTok ER (xCell (bwd c ⟨e, h⟩) 3 ⟨e, h⟩) 0 0 ∗ reached ER (xCell (bwd c ⟨e, h⟩) 3 ⟨e, h⟩) 0)
      ⊢ iprop(((cred (tallyAt (xCell c 2 ⟨e, h⟩) () N₂) ∗ owes (c : Thread nD τ) (owing c 32 32 (e + 1)) W) -∗ run c (k ⟨⟩) Q)
          -∗ run c (.op (.enqueueDma (blk1024 eM e h) (.remote (Dev.tc dev : Thread nD τ) (blk1024 bM e h) (.dma q₀) hsc) (.dma q₁) hsrc hdst hsem) k) Q) := by
  subst hdev; subst h₀; subst h₁
  unfold ePart; rw [← set_blk2 e h]; unfold bPart; rw [← set_blk3 e h]
  have e₁ : iprop((blk1024 eM e h).view.loc (c : Thread nD τ) ↦[(blk1024 eM e h).view.set]{fullShare} resAll m c) ⊢ (rd m).payload (xCell c 2 ⟨e, h⟩) 0 0 := by
    rw [payload_x]; unfold xPay ePart; rw [← set_blk2 e h]
  have e₂ : iprop((blk1024 bM e h).view.loc (bwd c ⟨e, h⟩ : Thread nD τ) ↦[(blk1024 bM e h).view.set]{fullShare}
      ((blk1024 bM e h).view.write (Elt F) fn ((blk1024 eM e h).view.read (Elt F) (resAll m c)) Finset.univ)) ⊢ (rd m).payload (xCell (bwd c ⟨e, h⟩) 3 ⟨e, h⟩) 0 0 := by
    rw [payload_x, set_blk3 e h]
    refine Entails.of_eq (bPart_congr (bwd c ⟨e, h⟩) (· = e) fun i hi => ?_)
    rw [copy_back e h fn (resAll m c) i hi]
    exact (backAll_at m c ⟨e, h⟩ i hi).symm
  exact Rounds.wp_send_pointsTo 𝒱₀ ER (rd m) (c : Thread nD τ) none (c' := (bwd c ⟨e, h⟩ : Thread nD τ)) (src := blk1024 eM e h) (dst := blk1024 bM e h)
    (sS := .dma (qsem 2 ⟨e, h⟩)) (sem := .dma (qsem 3 ⟨e, h⟩)) (q := fullShare) (fs := resAll m c) (κ₁ := K (c, some (2, ⟨e, h⟩))) (κ₂ := K (bwd c ⟨e, h⟩, some (3, ⟨e, h⟩)))
    (r₁ := 0) (r₂ := 0) (d₁ := 0) (d₂ := 0) (fd := fn)
    (by rw [duties_x]; exact Finset.mem_singleton_self _) (by rw [duties_x]; exact Finset.mem_singleton_self _)
    () () N₂ (credit_back e h bM) ((amount_x m _ _ _ _).trans credit_2) ((amount_x m _ _ _ _).trans credit_3) (owing c 32 32 (e + 1)) (owing_back c 32 32 h) (W := W)
    e₁ e₂

/-- A wait on a transfer cell: what the transfer hands over, and the cell closed at zero. -/
theorem wait_x (k : Fin 4) (j : Fin 32) {w : TpuEff nD τ sig (Elt F) Λ₀ .tc PUnit}
    (hw : ∀ R : PUnit → sProp 𝕄, wpE (defs₀ (F := F)) 𝒱₀ (c : Thread nD τ) none Set.univ w R
      = waitSpec (c : Thread nD τ) Set.univ (.dma (qsem k j)) (credit k) R)
    {α : Type} {p : PUnit → Prog (TpuEff nD τ sig (Elt F) Λ₀ .tc) α} {Q : α → sProp 𝕄} (O : CellTallies nD τ sig Unit) :
    iprop(recs m K ∗ (atPos ER (xCell c k j) 0 ∅ 0 ∗ cred (tallyAt (xCell c k j) () (credit k)))
        ∗ (∃ W, owes (c : Thread nD τ) O W) ∗ MayWait (c : Thread nD τ) (.dma (qsem k j)) () O)
      ⊢ iprop(((semVal (xCell c k j) 0 ∗ xPay m k c j ∗ ∃ W, owes (c : Thread nD τ) O W) -∗ run c (p ⟨⟩) Q)
          -∗ run c (.op w p) Q) := by
  iintro ⟨#HR, ⟨Hat, Hc⟩, ⟨%W, HO⟩, Hm⟩ Hk
  ihave #HI := (recs_x m K c k j) $$ HR
  icases HI with ⟨#HI, #-⟩
  iapply (Rounds.wp_wait_rest_token 𝒱₀ ER (rd m) (c : Thread nD τ) none (κ := K (c, some (k, j))) hw (Set.mem_univ _) () (O := O) (W := W)
    (R := 0) (m := 0) (T := ∅) (by rw [expect_x, Nat.zero_add])) $$ [Hat Hc HO Hm]
  · isplitr; · iexact HI
    isplitl [Hc]; · iexact Hc
    isplitl [HO]; · iexact HO
    isplitl [Hm]; · iexact Hm
    iexact Hat
  iintro ⟨HO, Hat, -, Hpay⟩
  ihave Hpay := (Entails.of_eq (rest_x m c k j)) $$ Hpay
  imod (Rounds.cell_close ER (rd m) (Set.mem_univ (K (c, some (k, j)))) (fun h => h) (R := 0 + 1) (duties_later m (xCell c k j))) $$ [Hat] with Hz
  · isplitr; · iexact HI
    iexact Hat
  iapply Hk
  isplitl [Hz]; · iexact Hz
  isplitl [Hpay]; · iexact Hpay
  iexists _; iexact HO

/-- The wait for the other devices' signals: the landing blocks they hand over, and the barrier's cell closed at zero. -/
theorem wait_bar {α : Type} {p : PUnit → Prog (TpuEff nD τ sig (Elt F) Λ₀ .tc) α} {Q : α → sProp 𝕄} (O : CellTallies nD τ sig Unit) :
    iprop(recs m K ∗ (atPos ER (barCell c) 0 ∅ 0 ∗ cred (tallyAt (barCell c) () 31))
        ∗ (∃ W, owes (c : Thread nD τ) O W) ∗ MayWait (c : Thread nD τ) (.reg barS) () O)
      ⊢ iprop(((semVal (barCell c) 0 ∗ bigSep (Finset.univ.erase 0) (barPay c) ∗ ∃ W, owes (c : Thread nD τ) O W) -∗ run c (p ⟨⟩) Q)
          -∗ run c (.op (.semWait barS (31#32 : BitVec 32).toInt) p) Q) := by
  iintro ⟨#HR, ⟨Hat, Hc⟩, ⟨%W, HO⟩, Hm⟩ Hk
  ihave #HI := (recs_bar m K c) $$ HR
  icases HI with ⟨#HI, #-⟩
  iapply (Rounds.wp_wait_rest_token 𝒱₀ ER (rd m) (c : Thread nD τ) none (κ := K (c, none)) (wpE_semWait_eq 𝒱₀ (c : Thread nD τ) none Set.univ)
    (Set.mem_univ _) () (O := O) (W := W) (R := 0) (m := 0) (T := ∅) (by rw [expect_bar]; decide)) $$ [Hat Hc HO Hm]
  · isplitr; · iexact HI
    isplitl [Hc]; · iexact Hc
    isplitl [HO]; · iexact HO
    isplitl [Hm]; · iexact Hm
    iexact Hat
  iintro ⟨HO, Hat, -, Hpay⟩
  ihave Hpay := (Entails.of_eq (rest_bar m c)) $$ Hpay
  imod (Rounds.cell_close ER (rd m) (Set.mem_univ (K (c, none))) (fun h => h) (R := 0 + 1) (duties_later m (barCell c))) $$ [Hat] with Hz
  · isplitr; · iexact HI
    iexact Hat
  iapply Hk
  isplitl [Hz]; · iexact Hz
  isplitl [Hpay]; · iexact Hpay
  iexists _; iexact HO

/-- The signal to the device `s` steps ahead. -/
theorem signal_bar {s : ℕ} (h : s < 32) (h0 : s ≠ 0) {dev : Dev nD} (hdev : dev = fwd c ⟨s, h⟩)
    {α : Type} {p : PUnit → Prog (TpuEff nD τ sig (Elt F) Λ₀ .tc) α} {Q : α → sProp 𝕄} :
    iprop(recs m K ∗ (∃ W, owes (c : Thread nD τ) (owing c s 0 0) W) ∗ giveFam c ⟨s, h⟩)
      ⊢ iprop(((∃ W, owes (c : Thread nD τ) (owing c (s + 1) 0 0) W) -∗ run c (p ⟨⟩) Q)
          -∗ run c (.op (.semSignal (Dev.tc dev : Thread nD τ) barS (1#32 : BitVec 32).toInt) p) Q) := by
  subst hdev
  unfold giveFam
  iintro ⟨#HR, ⟨%W, HO⟩, Ht, H1, H2⟩ Hk
  ihave #HI := (recs_bar m K (fwd c ⟨s, h⟩)) $$ HR
  icases HI with ⟨#HI, #Hre⟩
  iapply (Rounds.wp_signal 𝒱₀ ER (rd m) (c : Thread nD τ) none (dst := (fwd c ⟨s, h⟩ : Thread nD τ)) (κ := K (fwd c ⟨s, h⟩, none))
      (d := ⟨s, h⟩) (by rw [duties_bar]; exact Finset.mem_erase.mpr ⟨fun h' => h0 (congrArg Fin.val h'), Finset.mem_univ _⟩)
      ((amount_bar m (fwd c ⟨s, h⟩) ⟨s, h⟩).trans (by decide)) () (owing c (s + 1) 0 0) (owing_bar c h 0 0)) $$ [HO Ht H1 H2]
  · isplitr; · iexact HI
    isplitl [HO]; · iexact HO
    isplitl [Ht]; · iexact Ht
    isplitl [H1 H2]
    · rw [payload_bar]; unfold barPay; rw [bwd_fwd]
      isplitl [H1]; · iexact H1
      iexact H2
    iexact Hre
  iintro HO
  iapply Hk
  iexists W; iexact HO

end Cert.KernelIdeal.Moe

end

end
-- ==== Proof.KernelIdeal.Steps.lean ====
module

public import proofs.«01_k».proof.Proof.KernelIdeal.Cells

/-!
# One operation of the kernel on the state

Each theorem takes the state across one operation: if the rest of the program runs from the next state, the
operation and the rest run from this one.
-/

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CellIx → ℕ) (c : Dev nD)
variable {α : Type} {Q : α → sProp (MT nD τ sig Unit (Elt F) ℕ UU ℕ)}
variable {n d w r l e v u o : ℕ}

/-! ## Copies -/

/-- A block is sent out. -/
theorem st_send {p : PUnit → Prog (TpuEff nD τ sig (Elt F) Λ₀ .tc) α} (h : d < 32) (hn : d < n) (hw : w ≤ d) {dev : Dev nD} (hdev : dev = fwd c ⟨d, h⟩)
    {hsc : (blk640 rM d h).view.ref.isScScratch = false}
    {hsrc : (blk640 sM d h).view.WordExact} {hdst : (blk640 rM d h).view.WordExact}
    {hsem : DmaTarget.Typed .vmem (.dma (semAt cc0_scratch5 d h)) (.remote (Dev.tc dev : Thread nD τ) (blk640 rM d h) (.dma (semAt cc0_scratch4 d h)) hsc)}
    (H : St m K c n (d + 1) w r l e v u o ⊢ run c (p ⟨⟩) Q) :
    St m K c n d w r l e v u o ⊢ run c (.op (.enqueueDma (blk640 sM d h)
      (.remote (Dev.tc dev : Thread nD τ) (blk640 rM d h) (.dma (semAt cc0_scratch4 d h)) hsc) (.dma (semAt cc0_scratch5 d h)) hsrc hdst hsem) p) Q := by
  unfold St
  iintro ⟨#HR, #HL, ⟨%W, HO⟩, HI, HP, HB, HF0, HF2, HF1, HF3, HS, HV, HE, HC⟩
  ihave HF0 := (outFam_sent m c d w h hw) $$ HF0
  icases HF0 with ⟨⟨Hat, ⟨%fn, Hr⟩, Ht0, Ht1⟩, HF0⟩
  unfold sendP
  icases HS with ⟨%f, %hf, HS⟩
  ihave HS := (sPart_split c (d ≤ ·) (· = d) (d + 1 ≤ ·) (fun x => by omega) (fun x => by omega) f).1 $$ HS
  icases HS with ⟨HS1, HS⟩
  ihave HS1 := (Entails.of_eq (sPart_congr c (· = d) (f := f) (g := sendAll m c) fun i hi => hf i (by rw [hi]; exact hn))) $$ HS1
  ihave #HI0 := (recs_x m K c 0 ⟨d, h⟩) $$ HR
  icases HI0 with ⟨#HI0, #HR0⟩
  ihave #HI1 := (recs_x m K (fwd c ⟨d, h⟩) 1 ⟨d, h⟩) $$ HR
  icases HI1 with ⟨#HI1, #HR1⟩
  iapply (send_out m K c h e hdev (semAt_0 ⟨d, h⟩) (semAt_1 ⟨d, h⟩) fn W) $$ [HS1 Hr HO Ht0 Ht1]
  · iframe HI0 HI1 HS1 Hr HO Ht0 HR0 Ht1 HR1
  iintro ⟨Hc, HO⟩
  iapply H
  unfold St
  iframe HR HL HI HP HB HF2 HF1 HF3 HV HE HC
  isplitl [HO]; · iexists W; iexact HO
  isplitl [HF0 Hat Hc]
  · iapply HF0; iframe Hat Hc
  unfold sendP
  iexists f; isplitr; · ipureintro; exact hf
  iexact HS

/-- A result block is sent back. -/
theorem st_back {p : PUnit → Prog (TpuEff nD τ sig (Elt F) Λ₀ .tc) α} (h : e < 32) (hn : e < l) (hw : v ≤ e) {dev : Dev nD} (hdev : dev = bwd c ⟨e, h⟩)
    {hsc : (blk1024 bM e h).view.ref.isScScratch = false}
    {hsrc : (blk1024 eM e h).view.WordExact} {hdst : (blk1024 bM e h).view.WordExact}
    {hsem : DmaTarget.Typed .vmem (.dma (semAt cc0_scratch7 e h)) (.remote (Dev.tc dev : Thread nD τ) (blk1024 bM e h) (.dma (semAt cc0_scratch6 e h)) hsc)}
    (H : St m K c n 32 w r l (e + 1) v u o ⊢ run c (p ⟨⟩) Q) :
    St m K c n 32 w r l e v u o ⊢ run c (.op (.enqueueDma (blk1024 eM e h)
      (.remote (Dev.tc dev : Thread nD τ) (blk1024 bM e h) (.dma (semAt cc0_scratch6 e h)) hsc) (.dma (semAt cc0_scratch7 e h)) hsrc hdst hsem) p) Q := by
  unfold St
  iintro ⟨#HR, #HL, ⟨%W, HO⟩, HI, HP, HB, HF0, HF2, HF1, HF3, HS, HV, HE, HC⟩
  ihave HF2 := (backFam_sent m c e v h hw) $$ HF2
  icases HF2 with ⟨⟨Hat, ⟨%fn, Hr⟩, Ht0, Ht1⟩, HF2⟩
  unfold resP
  icases HE with ⟨%f, %hf, HE⟩
  ihave HE := (ePart_split c (e ≤ ·) (· = e) (e + 1 ≤ ·) (fun x => by omega) (fun x => by omega) f).1 $$ HE
  icases HE with ⟨HE1, HE⟩
  ihave HE1 := (Entails.of_eq (ePart_congr c (· = e) (f := f) (g := resAll m c) fun i hi => hf i (by rw [hi]; exact hn))) $$ HE1
  ihave #HI0 := (recs_x m K c 2 ⟨e, h⟩) $$ HR
  icases HI0 with ⟨#HI0, #HR0⟩
  ihave #HI1 := (recs_x m K (bwd c ⟨e, h⟩) 3 ⟨e, h⟩) $$ HR
  icases HI1 with ⟨#HI1, #HR1⟩
  iapply (send_back m K c h hdev (semAt_2 ⟨e, h⟩) (semAt_3 ⟨e, h⟩) fn W) $$ [HE1 Hr HO Ht0 Ht1]
  · iframe HI0 HI1 HE1 Hr HO Ht0 HR0 Ht1 HR1
  iintro ⟨Hc, HO⟩
  iapply H
  unfold St
  iframe HR HL HI HP HB HF0 HF1 HF3 HS HV HC
  isplitl [HO]; · iexists W; iexact HO
  isplitl [HF2 Hat Hc]
  · iapply HF2; iframe Hat Hc
  unfold resP
  iexists f; isplitr; · ipureintro; exact hf
  iexact HE

/-! ## Waits -/

/-- A sent block is waited for. -/
theorem st_sent {p : PUnit → Prog (TpuEff nD τ sig (Elt F) Λ₀ .tc) α} (h : w < 32) (hw : w < d)
    {hs : (blk640 rM w h).view.WordExact} {hd : (blk640 sM w h).view.WordExact}
    (H : St m K c n d (w + 1) r l e v u o ⊢ run c (p ⟨⟩) Q) :
    St m K c n d w r l e v u o ⊢ run c (.op (.waitDma2 (semAt cc0_scratch4 w h) (blk640 rM w h) (blk640 sM w h) hs hd) p) Q := by
  unfold St
  iintro ⟨#HR, #HL, HO, HI, HP, HB, HF0, HF2, HF1, HF3, HS, HV, HE, HC⟩
  ihave HF0 := (outFam_waited m c d w h hw) $$ HF0
  icases HF0 with ⟨Hw, HF0⟩
  iapply (wait_x m K c 0 ⟨w, h⟩ (w := .waitDma2 (semAt cc0_scratch4 w h) (blk640 rM w h) (blk640 sM w h) hs hd)
    (by rw [← semAt_0 ⟨w, h⟩]; exact wpE_waitDma2_eq 𝒱₀ (c : Thread nD τ) none Set.univ) (owing c 32 d e)) $$ [Hw HO]
  · isplitr; · iexact HR
    isplitl [Hw]; · rw [credit_0]; iexact Hw
    isplitl [HO]; · iexact HO
    iapply (mayWait c (.dma (qsem 0 ⟨w, h⟩)) 0 32 d e (by rw [lv_x]; decide) (.inl frm_end) (.inr (by decide)) (.inr (by decide))); iexact HL
  iintro ⟨Hz, Hp, HO⟩
  iapply H
  unfold St
  iframe HR HL HO HI HP HB HF2 HF1 HF3 HS HV HE HC
  iapply HF0
  isplitl [Hz]; · iexact Hz
  ihave Hp := (Entails.of_eq (show xPay m 0 c ⟨w, h⟩ = sPart c (· = w) (sendAll m c) from rfl)) $$ Hp
  iexact Hp

/-- A result block sent back is waited for. -/
theorem st_returned {p : PUnit → Prog (TpuEff nD τ sig (Elt F) Λ₀ .tc) α} (h : v < 32) (hw : v < e)
    {hs : (blk1024 bM v h).view.WordExact} {hd : (blk1024 eM v h).view.WordExact}
    (H : St m K c n d w r l e (v + 1) u o ⊢ run c (p ⟨⟩) Q) :
    St m K c n d w r l e v u o ⊢ run c (.op (.waitDma2 (semAt cc0_scratch6 v h) (blk1024 bM v h) (blk1024 eM v h) hs hd) p) Q := by
  unfold St
  iintro ⟨#HR, #HL, HO, HI, HP, HB, HF0, HF2, HF1, HF3, HS, HV, HE, HC⟩
  ihave HF2 := (backFam_waited m c e v h hw) $$ HF2
  icases HF2 with ⟨Hw, HF2⟩
  iapply (wait_x m K c 2 ⟨v, h⟩ (w := .waitDma2 (semAt cc0_scratch6 v h) (blk1024 bM v h) (blk1024 eM v h) hs hd)
    (by rw [← semAt_2 ⟨v, h⟩]; exact wpE_waitDma2_eq 𝒱₀ (c : Thread nD τ) none Set.univ) (owing c 32 d e)) $$ [Hw HO]
  · isplitr; · iexact HR
    isplitl [Hw]; · rw [credit_2]; iexact Hw
    isplitl [HO]; · iexact HO
    iapply (mayWait c (.dma (qsem 2 ⟨v, h⟩)) 0 32 d e (by rw [lv_x]; decide) (.inl frm_end) (.inr (by decide)) (.inr (by decide))); iexact HL
  iintro ⟨Hz, Hp, HO⟩
  iapply H
  unfold St
  iframe HR HL HO HI HP HB HF0 HF1 HF3 HS HV HE HC
  iapply HF2
  isplitl [Hz]; · iexact Hz
  ihave Hp := (Entails.of_eq (show xPay m 2 c ⟨v, h⟩ = ePart c (· = v) (resAll m c) from rfl)) $$ Hp
  iexact Hp

/-- An arriving block is waited for. -/
theorem st_arrived {p : PUnit → Prog (TpuEff nD τ sig (Elt F) Λ₀ .tc) α} (h : r < 32)
    {hs : (blk640 sM r h).view.WordExact} {hd : (blk640 rM r h).view.WordExact}
    (H : St m K c n 32 w (r + 1) l e v u o ⊢ run c (p ⟨⟩) Q) :
    St m K c n 32 w r l e v u o ⊢ run c (.op (.waitDma2 (semAt cc0_scratch5 r h) (blk640 sM r h) (blk640 rM r h) hs hd) p) Q := by
  unfold St
  iintro ⟨#HR, #HL, HO, HI, HP, HB, HF0, HF2, HF1, HF3, HS, HV, HE, HC⟩
  ihave HF1 := (recvFam_waited c 1 r h) $$ HF1
  icases HF1 with ⟨Hw, HF1⟩
  iapply (wait_x m K c 1 ⟨r, h⟩ (w := .waitDma2 (semAt cc0_scratch5 r h) (blk640 sM r h) (blk640 rM r h) hs hd)
    (by rw [← semAt_1 ⟨r, h⟩]; exact wpE_waitDma2_eq 𝒱₀ (c : Thread nD τ) none Set.univ) (owing c 32 32 e)) $$ [Hw HO]
  · isplitr; · iexact HR
    isplitl [Hw]; · iexact Hw
    isplitl [HO]; · iexact HO
    iapply (mayWait c (.dma (qsem 1 ⟨r, h⟩)) 2 32 32 e (by rw [lv_x]; decide) (.inl frm_end) (.inl frm_end) (.inr (by decide))); iexact HL
  iintro ⟨Hz, Hp, HO⟩
  iapply H
  unfold St
  iframe HR HL HO HI HP HB HF0 HF2 HF3 HS HE HC
  isplitl [HF1 Hz]; · iapply HF1; iexact Hz
  iapply (rPart_split c (· < r + 1) (· < r) (· = r) (fun x => by omega) (fun x => by omega) (recvAll m c)).2
  isplitl [HV]; · iexact HV
  ihave Hp := (Entails.of_eq (show xPay m 1 c ⟨r, h⟩ = rPart c (· = r) (recvAll m c) from rfl)) $$ Hp
  iexact Hp

/-- A returning block is waited for. -/
theorem st_home {p : PUnit → Prog (TpuEff nD τ sig (Elt F) Λ₀ .tc) α} (h : u < 32)
    {hs : (blk1024 eM u h).view.WordExact} {hd : (blk1024 bM u h).view.WordExact}
    (H : St m K c n 32 w r l 32 v (u + 1) o ⊢ run c (p ⟨⟩) Q) :
    St m K c n 32 w r l 32 v u o ⊢ run c (.op (.waitDma2 (semAt cc0_scratch7 u h) (blk1024 eM u h) (blk1024 bM u h) hs hd) p) Q := by
  unfold St
  iintro ⟨#HR, #HL, HO, HI, HP, HB, HF0, HF2, HF1, HF3, HS, HV, HE, HC⟩
  ihave HF3 := (recvFam_waited c 3 u h) $$ HF3
  icases HF3 with ⟨Hw, HF3⟩
  iapply (wait_x m K c 3 ⟨u, h⟩ (w := .waitDma2 (semAt cc0_scratch7 u h) (blk1024 eM u h) (blk1024 bM u h) hs hd)
    (by rw [← semAt_3 ⟨u, h⟩]; exact wpE_waitDma2_eq 𝒱₀ (c : Thread nD τ) none Set.univ) (owing c 32 32 32)) $$ [Hw HO]
  · isplitr; · iexact HR
    isplitl [Hw]; · iexact Hw
    isplitl [HO]; · iexact HO
    iapply (mayWait c (.dma (qsem 3 ⟨u, h⟩)) 3 32 32 32 (by rw [lv_x]; decide) (.inl frm_end) (.inl frm_end) (.inl frm_end)); iexact HL
  iintro ⟨Hz, Hp, HO⟩
  iapply H
  unfold St
  iframe HR HL HO HI HP HB HF0 HF2 HF1 HS HV HE
  isplitl [HF3 Hz]; · iapply HF3; iexact Hz
  iapply (bPart_split c (· < u + 1) (· < u) (· = u) (fun x => by omega) (fun x => by omega) (backAll m c)).2
  isplitl [HC]; · iexact HC
  ihave Hp := (Entails.of_eq (show xPay m 3 c ⟨u, h⟩ = bPart c (· = u) (backAll m c) from rfl)) $$ Hp
  iexact Hp

/-! ## Loads -/

/-- The staged arguments, with one of them taken out. -/
theorem St_inputs : St m K c n d w r l e v u o ⊢ iprop(inputs m c ∗ (inputs m c -∗ St m K c n d w r l e v u o)) := by
  unfold St
  iintro ⟨#HR, #HL, HO, HI, HP, HB, HF0, HF2, HF1, HF3, HS, HV, HE, HC⟩
  isplitl [HI]; · iexact HI
  iintro HI
  iframe HR HL HO HI HP HB HF0 HF2 HF1 HF3 HS HV HE HC

theorem zero_off : (![0, 0] : Fin 2 → ℕ) = fun _ => 0 := by funext a; fin_cases a <;> rfl
theorem zero_off3 : (![0, 0, 0] : Fin 3 → ℕ) = fun _ => 0 := by funext a; fin_cases a <;> rfl

/-- A load of a whole buffer reads its contents. -/
theorem read_x (f : (cc0_stg0_0 : Ref sig .tc).ty.Contents (Elt F)) : (Memref.whole cc0_stg0_0 : Memref sig .tc .vmem S1024x512 .bf16).view.readAt (Elt F)
    (Rect.unit (s := S1024x512) ![0, 0] S1024x512.size inb_S1024x512_S1024x512_0_0).toLoadRect f = f := Memref.readAt_unit_zero (Elt F) cc0_stg0_0 zero_off _ f
theorem read_rw (f : (cc0_stg1_0 : Ref sig .tc).ty.Contents (Elt F)) : (Memref.whole cc0_stg1_0 : Memref sig .tc .vmem S512x128 .bf16).view.readAt (Elt F)
    (Rect.unit (s := S512x128) ![0, 0] S512x128.size inb_S512x128_S512x128_0_0).toLoadRect f = f := Memref.readAt_unit_zero (Elt F) cc0_stg1_0 zero_off _ f
theorem read_rt (f : (cc0_stg2_0 : Ref sig .tc).ty.Contents (Elt F)) : (Memref.whole cc0_stg2_0 : Memref sig .tc .vmem S1024x1 .i32).view.readAt (Elt F)
    (Rect.unit (s := S1024x1) ![0, 0] S1024x1.size inb_S1024x1_S1024x1_0_0).toLoadRect f = f := Memref.readAt_unit_zero (Elt F) cc0_stg2_0 zero_off _ f
theorem read_sw (f : (cc0_stg4_0 : Ref sig .tc).ty.Contents (Elt F)) : (Memref.whole cc0_stg4_0 : Memref sig .tc .vmem S512x1024 .bf16).view.readAt (Elt F)
    (Rect.unit (s := S512x1024) ![0, 0] S512x1024.size inb_S512x1024_S512x1024_0_0).toLoadRect f = f := Memref.readAt_unit_zero (Elt F) cc0_stg4_0 zero_off _ f
theorem read_out (f : (cc0_stg5_0 : Ref sig .tc).ty.Contents (Elt F)) : (Memref.whole cc0_stg5_0 : Memref sig .tc .vmem S1024x1024 .f32).view.readAt (Elt F)
    (Rect.unit (s := S1024x1024) ![0, 0] S1024x1024.size inb_S1024x1024_S1024x1024_0_0).toLoadRect f = f := Memref.readAt_unit_zero (Elt F) cc0_stg5_0 zero_off _ f
theorem read_back (f : (cc0_scratch3 : Ref sig .tc).ty.Contents (Elt F)) : (Memref.whole cc0_scratch3 : Memref sig .tc .vmem S32x64x1024 .bf16).view.readAt (Elt F)
    (Rect.unit (s := S32x64x1024) ![0, 0, 0] S32x64x1024.size inb_S32x64x1024_S32x64x1024_0_0_0).toLoadRect f = f := Memref.readAt_unit_zero (Elt F) cc0_scratch3 zero_off3 _ f

theorem st_load_x {p : Vec F S1024x512 .bf16 → Prog (TpuEff nD τ sig (Elt F) Λ₀ .tc) α} {hl}
    (H : St m K c n d w r l e v u o ⊢ run c (p (xin m c)) Q) :
    St m K c n d w r l e v u o ⊢ run c (.op (.load (Memref.whole cc0_stg0_0 : Memref sig .tc .vmem S1024x512 .bf16)
      (Rect.unit (s := S1024x512) ![0, 0] S1024x512.size inb_S1024x512_S1024x512_0_0).toLoadRect hl) p) Q := by
  refine focus (St_inputs m K c) ?_ H
  unfold inputs
  iintro ⟨H0, H1, H2, H3, H4⟩ Hk
  iapply (wp_load 𝒱₀ (c : Thread nD τ) none Set.univ (m := (Memref.whole cc0_stg0_0 : Memref sig .tc .vmem S1024x512 .bf16)) (Finset.subset_univ _)) $$ H0
  iintro H0
  rw [read_x]
  iapply Hk
  iframe H0 H1 H2 H3 H4

theorem st_load_rw {p : Vec F S512x128 .bf16 → Prog (TpuEff nD τ sig (Elt F) Λ₀ .tc) α} {hl}
    (H : St m K c n d w r l e v u o ⊢ run c (p (rwin m c)) Q) :
    St m K c n d w r l e v u o ⊢ run c (.op (.load (Memref.whole cc0_stg1_0 : Memref sig .tc .vmem S512x128 .bf16)
      (Rect.unit (s := S512x128) ![0, 0] S512x128.size inb_S512x128_S512x128_0_0).toLoadRect hl) p) Q := by
  refine focus (St_inputs m K c) ?_ H
  unfold inputs
  iintro ⟨H0, H1, H2, H3, H4⟩ Hk
  iapply (wp_load 𝒱₀ (c : Thread nD τ) none Set.univ (m := (Memref.whole cc0_stg1_0 : Memref sig .tc .vmem S512x128 .bf16)) (Finset.subset_univ _)) $$ H1
  iintro H1
  rw [read_rw]
  iapply Hk
  iframe H0 H1 H2 H3 H4

theorem st_load_rt {p : Vec F S1024x1 .i32 → Prog (TpuEff nD τ sig (Elt F) Λ₀ .tc) α} {hl}
    (H : St m K c n d w r l e v u o ⊢ run c (p (rtin m c)) Q) :
    St m K c n d w r l e v u o ⊢ run c (.op (.load (Memref.whole cc0_stg2_0 : Memref sig .tc .vmem S1024x1 .i32)
      (Rect.unit (s := S1024x1) ![0, 0] S1024x1.size inb_S1024x1_S1024x1_0_0).toLoadRect hl) p) Q := by
  refine focus (St_inputs m K c) ?_ H
  unfold inputs
  iintro ⟨H0, H1, H2, H3, H4⟩ Hk
  iapply (wp_load 𝒱₀ (c : Thread nD τ) none Set.univ (m := (Memref.whole cc0_stg2_0 : Memref sig .tc .vmem S1024x1 .i32)) (Finset.subset_univ _)) $$ H2
  iintro H2
  rw [read_rt]
  iapply Hk
  iframe H0 H1 H2 H3 H4

theorem st_load_exp {p : Vec F S1x512x1024 .bf16 → Prog (TpuEff nD τ sig (Elt F) Λ₀ .tc) α} (k : ℕ) (hk : k < 4) {hl}
    (H : St m K c n d w r l e v u o ⊢ run c (p (expW m c k hk)) Q) :
    St m K c n d w r l e v u o ⊢ run c (.op (.load (Memref.whole cc0_stg3_0 : Memref sig .tc .vmem S4x512x1024 .bf16)
      (Rect.unit (s := S4x512x1024) ![k, 0, 0] S1x512x1024.size (inb_exp k hk)).toLoadRect hl) p) Q := by
  refine focus (St_inputs m K c) ?_ H
  unfold inputs
  iintro ⟨H0, H1, H2, H3, H4⟩ Hk
  iapply (wp_load 𝒱₀ (c : Thread nD τ) none Set.univ (m := (Memref.whole cc0_stg3_0 : Memref sig .tc .vmem S4x512x1024 .bf16)) (Finset.subset_univ _)) $$ H3
  iintro H3
  iapply Hk
  iframe H0 H1 H2 H3 H4

theorem st_load_sw {p : Vec F S512x1024 .bf16 → Prog (TpuEff nD τ sig (Elt F) Λ₀ .tc) α} {hl}
    (H : St m K c n d w r l e v u o ⊢ run c (p (swin m c)) Q) :
    St m K c n d w r l e v u o ⊢ run c (.op (.load (Memref.whole cc0_stg4_0 : Memref sig .tc .vmem S512x1024 .bf16)
      (Rect.unit (s := S512x1024) ![0, 0] S512x1024.size inb_S512x1024_S512x1024_0_0).toLoadRect hl) p) Q := by
  refine focus (St_inputs m K c) ?_ H
  unfold inputs
  iintro ⟨H0, H1, H2, H3, H4⟩ Hk
  iapply (wp_load 𝒱₀ (c : Thread nD τ) none Set.univ (m := (Memref.whole cc0_stg4_0 : Memref sig .tc .vmem S512x1024 .bf16)) (Finset.subset_univ _)) $$ H4
  iintro H4
  rw [read_sw]
  iapply Hk
  iframe H0 H1 H2 H3 H4

/-- A group of eight received blocks is read once all eight have arrived. -/
theorem st_load_recv {p : Vec F S8x64x640 .bf16 → Prog (TpuEff nD τ sig (Elt F) Λ₀ .tc) α} (g : ℕ) (hg : g ≤ 24) (hr : g + 8 ≤ r) {hl}
    (H : St m K c n d w r l e v u o ⊢ run c (p (recvGroup m c g hg)) Q) :
    St m K c n d w r l e v u o ⊢ run c (.op (.load rM (Rect.unit (s := S32x64x640) ![g, 0, 0] S8x64x640.size (inb_grp640 g hg)).toLoadRect hl) p) Q := by
  unfold St
  iintro ⟨#HR, #HL, HO, HI, HP, HB, HF0, HF2, HF1, HF3, HS, HV, HE, HC⟩
  unfold rPart
  iapply (wp_load 𝒱₀ (c : Thread nD τ) none Set.univ (m := rM) (S := rows640 (· < r)) (fun i hi => by
    rw [mem_rows640]
    obtain ⟨x, hx, rfl⟩ := Finset.mem_map.mp hi
    have := (mem_grp640 g hg x).mp hx
    show (x (0 : Fin 3)).val < r
    omega)) $$ HV
  iintro HV
  iapply H
  unfold St rPart
  iframe HR HL HO HI HP HB HF0 HF2 HF1 HF3 HS HV HE HC

/-- The returned blocks are read once all have arrived. -/
theorem st_load_back {p : Vec F S32x64x1024 .bf16 → Prog (TpuEff nD τ sig (Elt F) Λ₀ .tc) α} {hl}
    (H : St m K c n d w r l e v 32 o ⊢ run c (p (backAll m c)) Q) :
    St m K c n d w r l e v 32 o ⊢ run c (.op (.load bM (Rect.unit (s := S32x64x1024) ![0, 0, 0] S32x64x1024.size inb_S32x64x1024_S32x64x1024_0_0_0).toLoadRect hl) p) Q := by
  unfold St
  iintro ⟨#HR, #HL, HO, HI, HP, HB, HF0, HF2, HF1, HF3, HS, HV, HE, HC⟩
  ihave HC := (Entails.of_eq (bPart_all c (· < 32) (fun _ h => h) (backAll m c))) $$ HC
  iapply (wp_load 𝒱₀ (c : Thread nD τ) none Set.univ (m := bM) (Finset.subset_univ _)) $$ HC
  iintro HC
  rw [read_back]
  iapply H
  unfold St
  iframe HR HL HO HI HP HB HF0 HF2 HF1 HF3 HS HV HE
  iapply (Entails.of_eq (bPart_all c (· < 32) (fun _ h => h) (backAll m c)).symm)
  iexact HC

theorem outP_0 : outP m c 0 = iprop(∃ f, ((c : Thread nD τ).loc cc0_stg5_0) ↦{fullShare} f) := rfl
theorem outP_1 : outP m c 1 = iprop(((c : Thread nD τ).loc cc0_stg5_0) ↦{fullShare} (sharedOut m c : Buf (Elt F) ((c : Thread nD τ).loc cc0_stg5_0))) := rfl
theorem outP_2 : outP m c 2 = iprop(((c : Thread nD τ).loc cc0_stg5_0) ↦{fullShare} (outAt m c : Buf (Elt F) ((c : Thread nD τ).loc cc0_stg5_0))) := rfl

/-- The result's buffer is read: whatever it holds, or the shared expert. -/
theorem st_load_out0 {p : Vec F S1024x1024 .f32 → Prog (TpuEff nD τ sig (Elt F) Λ₀ .tc) α} {hl}
    (H : ∀ x, St m K c n d w r l e v u 0 ⊢ run c (p x) Q) :
    St m K c n d w r l e v u 0 ⊢ run c (.op (.load (Memref.whole cc0_stg5_0 : Memref sig .tc .vmem S1024x1024 .f32)
      (Rect.unit (s := S1024x1024) ![0, 0] S1024x1024.size inb_S1024x1024_S1024x1024_0_0).toLoadRect hl) p) Q := by
  unfold St; rw [outP_0]
  iintro ⟨#HR, #HL, HO, HI, ⟨%f, HP⟩, HB, HF0, HF2, HF1, HF3, HS, HV, HE, HC⟩
  iapply (wp_load 𝒱₀ (c : Thread nD τ) none Set.univ (m := (Memref.whole cc0_stg5_0 : Memref sig .tc .vmem S1024x1024 .f32)) (Finset.subset_univ _)) $$ HP
  iintro HP
  iapply (H _)
  unfold St; rw [outP_0]
  iframe HR HL HO HI HB HF0 HF2 HF1 HF3 HS HV HE HC
  iexists f; iexact HP
theorem st_load_out1 {p : Vec F S1024x1024 .f32 → Prog (TpuEff nD τ sig (Elt F) Λ₀ .tc) α} {hl}
    (H : St m K c n d w r l e v u 1 ⊢ run c (p (sharedOut m c)) Q) :
    St m K c n d w r l e v u 1 ⊢ run c (.op (.load (Memref.whole cc0_stg5_0 : Memref sig .tc .vmem S1024x1024 .f32)
      (Rect.unit (s := S1024x1024) ![0, 0] S1024x1024.size inb_S1024x1024_S1024x1024_0_0).toLoadRect hl) p) Q := by
  unfold St; rw [outP_1]
  iintro ⟨#HR, #HL, HO, HI, HP, HB, HF0, HF2, HF1, HF3, HS, HV, HE, HC⟩
  iapply (wp_load 𝒱₀ (c : Thread nD τ) none Set.univ (m := (Memref.whole cc0_stg5_0 : Memref sig .tc .vmem S1024x1024 .f32)) (Finset.subset_univ _)) $$ HP
  iintro HP
  rw [read_out]
  iapply H
  unfold St; rw [outP_1]
  iframe HR HL HO HI HP HB HF0 HF2 HF1 HF3 HS HV HE HC

/-- The part of the send or result buffer about to be overwritten is read, whatever it holds. -/
theorem st_load_send {p : Vec F S8x64x640 .bf16 → Prog (TpuEff nD τ sig (Elt F) Λ₀ .tc) α} (g : ℕ) (hg : g ≤ 24) (hd : d ≤ g) {hl}
    (H : ∀ x, St m K c n d w r l e v u o ⊢ run c (p x) Q) :
    St m K c n d w r l e v u o ⊢ run c (.op (.load sM (grp640 g hg).toLoadRect hl) p) Q := by
  unfold St sendP sPart
  iintro ⟨#HR, #HL, HO, HI, HP, HB, HF0, HF2, HF1, HF3, ⟨%f, %hf, HS⟩, HV, HE, HC⟩
  iapply (wp_load 𝒱₀ (c : Thread nD τ) none Set.univ (m := sM) (S := rows640 (d ≤ ·)) (fun i hi => by
    rw [mem_rows640]
    obtain ⟨x, hx, rfl⟩ := Finset.mem_map.mp hi
    have := (mem_grp640 g hg x).mp hx
    show d ≤ (x (0 : Fin 3)).val
    omega)) $$ HS
  iintro HS
  iapply (H _)
  unfold St sendP sPart
  iframe HR HL HO HI HP HB HF0 HF2 HF1 HF3 HV HE HC
  iexists f; isplitr; · ipureintro; exact hf
  iexact HS
theorem st_load_res {p : Vec F S8x64x1024 .bf16 → Prog (TpuEff nD τ sig (Elt F) Λ₀ .tc) α} (g : ℕ) (hg : g ≤ 24) (hd : e ≤ g) {hl}
    (H : ∀ x, St m K c n d w r l e v u o ⊢ run c (p x) Q) :
    St m K c n d w r l e v u o ⊢ run c (.op (.load eM (grp1024 g hg).toLoadRect hl) p) Q := by
  unfold St resP ePart
  iintro ⟨#HR, #HL, HO, HI, HP, HB, HF0, HF2, HF1, HF3, HS, HV, ⟨%f, %hf, HE⟩, HC⟩
  iapply (wp_load 𝒱₀ (c : Thread nD τ) none Set.univ (m := eM) (S := rows1024 (e ≤ ·)) (fun i hi => by
    rw [mem_rows1024]
    obtain ⟨x, hx, rfl⟩ := Finset.mem_map.mp hi
    have := (mem_grp1024 g hg x).mp hx
    show e ≤ (x (0 : Fin 3)).val
    omega)) $$ HE
  iintro HE
  iapply (H _)
  unfold St resP ePart
  iframe HR HL HO HI HP HB HF0 HF2 HF1 HF3 HS HV HC
  iexists f; isplitr; · ipureintro; exact hf
  iexact HE

/-! ## Stores -/

/-- Eight more blocks of the send buffer are computed. -/
theorem st_store_send {p : PUnit → Prog (TpuEff nD τ sig (Elt F) Λ₀ .tc) α} (hg : n ≤ 24) (h8 : n % 8 = 0) (hd : d ≤ n)
    {x : FVec F S8x64x640 .bf16} (hx : x = sendGroup m c (n / 8)) {hs hm}
    (H : St m K c (n + 8) d w r l e v u o ⊢ run c (p ⟨⟩) Q) :
    St m K c n d w r l e v u o ⊢ run c (.op (.store sM (grp640 n hg) x Finset.univ hs hm) p) Q := by
  subst hx
  unfold St sendP sPart
  iintro ⟨#HR, #HL, HO, HI, HP, HB, HF0, HF2, HF1, HF3, ⟨%f, %hf, HS⟩, HV, HE, HC⟩
  iapply (wp_store 𝒱₀ (c : Thread nD τ) none Set.univ (m := sM) (r := grp640 n hg) (Mk := Finset.univ) (S := rows640 (d ≤ ·)) (fun i hi => by
    rw [mem_rows640]
    rw [set_grp0, mem_grp640] at hi
    omega)) $$ HS
  iintro HS
  iapply H
  unfold St sendP sPart
  iframe HR HL HO HI HP HB HF0 HF2 HF1 HF3 HV HE HC
  iexists _; isplitr
  swap; · iexact HS
  ipureintro
  intro i hi
  by_cases hin : (i (0 : Fin 3)).val < n
  · exact (store_off0 n hg f _ i hin).trans (hf i hin)
  · refine (store_on0 n hg h8 f _ i (by omega) hi).trans ?_
    unfold sendAll
    rw [show (i (0 : Fin 3)).val / 8 = n / 8 by omega]

/-- Eight more blocks of the result buffer are computed. -/
theorem st_store_res {p : PUnit → Prog (TpuEff nD τ sig (Elt F) Λ₀ .tc) α} (hg : l ≤ 24) (h8 : l % 8 = 0) (hd : e ≤ l)
    {x : FVec F S8x64x1024 .bf16} (hx : x = resGroup m c (l / 8)) {hs hm}
    (H : St m K c n d w r (l + 8) e v u o ⊢ run c (p ⟨⟩) Q) :
    St m K c n d w r l e v u o ⊢ run c (.op (.store eM (grp1024 l hg) x Finset.univ hs hm) p) Q := by
  subst hx
  unfold St resP ePart
  iintro ⟨#HR, #HL, HO, HI, HP, HB, HF0, HF2, HF1, HF3, HS, HV, ⟨%f, %hf, HE⟩, HC⟩
  iapply (wp_store 𝒱₀ (c : Thread nD τ) none Set.univ (m := eM) (r := grp1024 l hg) (Mk := Finset.univ) (S := rows1024 (e ≤ ·)) (fun i hi => by
    rw [mem_rows1024]
    rw [set_grp2, mem_grp1024] at hi
    omega)) $$ HE
  iintro HE
  iapply H
  unfold St resP ePart
  iframe HR HL HO HI HP HB HF0 HF2 HF1 HF3 HS HV HC
  iexists _; isplitr
  swap; · iexact HE
  ipureintro
  intro i hi
  by_cases hin : (i (0 : Fin 3)).val < l
  · exact (store_off2 l hg f _ i hin).trans (hf i hin)
  · refine (store_on2 l hg h8 f _ i (by omega) hi).trans ?_
    unfold resAll
    rw [show (i (0 : Fin 3)).val / 8 = l / 8 by omega]

theorem store_whole (f : (cc0_stg5_0 : Ref sig .tc).ty.Contents (Elt F)) (x : (cc0_stg5_0 : Ref sig .tc).ty.Contents (Elt F)) :
    ((Memref.whole cc0_stg5_0 : Memref sig .tc .vmem S1024x1024 .f32).access
      (Rect.unit (s := S1024x1024) ![0, 0] S1024x1024.size inb_S1024x1024_S1024x1024_0_0)).write (Elt F) f x Finset.univ = x :=
  Memref.write_access_unit_zero_univ (Elt F) cc0_stg5_0 zero_off _ f x

/-- The shared expert is stored, then the whole result. -/
theorem st_store_shared {p : PUnit → Prog (TpuEff nD τ sig (Elt F) Λ₀ .tc) α} {x : FVec F S1024x1024 .f32} (hx : x = sharedOut m c) {hs hm}
    (H : St m K c n d w r l e v u 1 ⊢ run c (p ⟨⟩) Q) :
    St m K c n d w r l e v u 0 ⊢ run c (.op (.store (Memref.whole cc0_stg5_0 : Memref sig .tc .vmem S1024x1024 .f32)
      (Rect.unit (s := S1024x1024) ![0, 0] S1024x1024.size inb_S1024x1024_S1024x1024_0_0) x Finset.univ hs hm) p) Q := by
  subst hx
  unfold St; rw [outP_0]
  iintro ⟨#HR, #HL, HO, HI, ⟨%f, HP⟩, HB, HF0, HF2, HF1, HF3, HS, HV, HE, HC⟩
  iapply (wp_store 𝒱₀ (c : Thread nD τ) none Set.univ (m := (Memref.whole cc0_stg5_0 : Memref sig .tc .vmem S1024x1024 .f32))
    (r := (Rect.unit (s := S1024x1024) ![0, 0] S1024x1024.size inb_S1024x1024_S1024x1024_0_0)) (Mk := Finset.univ) (Finset.subset_univ _)) $$ HP
  iintro HP
  rw [store_whole]
  iapply H
  unfold St; rw [outP_1]
  iframe HR HL HO HI HP HB HF0 HF2 HF1 HF3 HS HV HE HC
theorem st_store_out {p : PUnit → Prog (TpuEff nD τ sig (Elt F) Λ₀ .tc) α} {x : FVec F S1024x1024 .f32} (hx : x = outAt m c) {hs hm}
    (H : St m K c n d w r l e v u 2 ⊢ run c (p ⟨⟩) Q) :
    St m K c n d w r l e v u 1 ⊢ run c (.op (.store (Memref.whole cc0_stg5_0 : Memref sig .tc .vmem S1024x1024 .f32)
      (Rect.unit (s := S1024x1024) ![0, 0] S1024x1024.size inb_S1024x1024_S1024x1024_0_0) x Finset.univ hs hm) p) Q := by
  subst hx
  unfold St; rw [outP_1]
  iintro ⟨#HR, #HL, HO, HI, HP, HB, HF0, HF2, HF1, HF3, HS, HV, HE, HC⟩
  iapply (wp_store 𝒱₀ (c : Thread nD τ) none Set.univ (m := (Memref.whole cc0_stg5_0 : Memref sig .tc .vmem S1024x1024 .f32))
    (r := (Rect.unit (s := S1024x1024) ![0, 0] S1024x1024.size inb_S1024x1024_S1024x1024_0_0)) (Mk := Finset.univ) (Finset.subset_univ _)) $$ HP
  iintro HP
  rw [store_whole]
  iapply H
  unfold St; rw [outP_2]
  iframe HR HL HO HI HP HB HF0 HF2 HF1 HF3 HS HV HE HC

/-! ## The barrier -/

/-- A device ahead is signalled. -/
theorem pre_signal {s : ℕ} {p : PUnit → Prog (TpuEff nD τ sig (Elt F) Λ₀ .tc) α} (h : s < 32) (h0 : s ≠ 0) {dev : Dev nD} (hdev : dev = fwd c ⟨s, h⟩)
    (H : Pre m K c (s + 1) ⊢ run c (p ⟨⟩) Q) :
    Pre m K c s ⊢ run c (.op (.semSignal (Dev.tc dev : Thread nD τ) barS (1#32 : BitVec 32).toInt) p) Q := by
  unfold Pre
  rw [show bigSep (frm s) (giveFam (F := F) c) = iprop(giveFam c ⟨s, h⟩ ∗ bigSep (frm (s + 1)) (giveFam c)) from by
    rw [frm_succ h]; exact bigSep_insert (notMem_frm h)]
  iintro ⟨#HR, #HL, HO, HI, HP, HB, ⟨HG1, HG⟩, H0, HF0, HF2, HF1, HF3, HS, HE⟩
  iapply (signal_bar m K c h h0 hdev) $$ [HO HG1]
  · isplitr; · iexact HR
    isplitl [HO]; · iexact HO
    iexact HG1
  iintro HO
  iapply H
  unfold Pre
  iframe HR HL HO HI HP HB HG H0 HF0 HF2 HF1 HF3 HS HE

/-- The blocks handed over at the barrier, with the device's own, are one block per distance, out and back. -/
theorem landing : iprop(bigSep (Finset.univ.erase 0) (barPay (F := F) c) ∗ (∃ f, rPart c (· = 0) f) ∗ ∃ f, bPart c (· = 0) f)
    ⊢ iprop((bigSep Finset.univ fun j : Fin 32 => iprop(∃ f, rPart (fwd c j) (· = j.val) f))
      ∗ bigSep Finset.univ fun j : Fin 32 => iprop(∃ f, bPart (bwd c j) (· = j.val) f) : sProp 𝕄) := by
  have h0 : fwd c 0 = c := by revert c; decide
  have h0' : bwd c 0 = c := by revert c; decide
  have ho : opp 0 = 0 := by decide
  have e₁ : (bigSep Finset.univ fun j : Fin 32 => iprop(∃ f, rPart (fwd c j) (· = j.val) f) : sProp 𝕄)
      = bigSep Finset.univ fun j : Fin 32 => iprop(∃ f, rPart (bwd c j) (· = (opp j).val) f) := by
    refine (bigSep_univ_equiv oppEquiv _).trans (bigSep_congr fun j _ => ?_)
    show iprop(∃ f, rPart (fwd c (opp j)) (· = (opp j).val) f) = _
    rw [fwd_opp]
  rw [e₁, bigSep_univ_at _ (0 : Fin 32), bigSep_univ_at (fun j : Fin 32 => iprop(∃ f, bPart (bwd c j) (· = j.val) f)) (0 : Fin 32)]
  rw [h0', ho]
  unfold barPay
  rw [bigSep_sep']
  iintro ⟨⟨H1, H2⟩, H3, H4⟩
  isplitl [H1 H3]
  · isplitl [H3]; · iexact H3
    iexact H1
  isplitl [H4]; · iexact H4
  iexact H2

theorem outFam_start : iprop((bigSep Finset.univ fun j : Fin 32 => iprop(∃ f, rPart (fwd c j) (· = j.val) f)) ∗ bigSep Finset.univ (outFam₀ c))
    ⊢ bigSep Finset.univ (outFam m c 0 0) := by
  have hj : ∀ j, iprop((∃ f, rPart (fwd c j) (· = j.val) f) ∗ outFam₀ c j) ⊢ outFam m c 0 0 j := fun j => by
    unfold outFam outFam₀
    rw [if_neg (Nat.not_lt_zero _), if_neg (Nat.not_lt_zero _)]
    iintro ⟨Hr, Ha, Ht⟩
    isplitl [Ha]; · iexact Ha
    isplitl [Hr]; · iexact Hr
    iexact Ht
  rw [← bigSep_sep']
  exact bigSep_mono fun j _ => hj j
theorem backFam_start : iprop((bigSep Finset.univ fun j : Fin 32 => iprop(∃ f, bPart (bwd c j) (· = j.val) f)) ∗ bigSep Finset.univ (backFam₀ c))
    ⊢ bigSep Finset.univ (backFam m c 0 0) := by
  have hj : ∀ j, iprop((∃ f, bPart (bwd c j) (· = j.val) f) ∗ backFam₀ c j) ⊢ backFam m c 0 0 j := fun j => by
    unfold backFam backFam₀
    rw [if_neg (Nat.not_lt_zero _), if_neg (Nat.not_lt_zero _)]
    iintro ⟨Hr, Ha, Ht⟩
    isplitl [Ha]; · iexact Ha
    isplitl [Hr]; · iexact Hr
    iexact Ht
  rw [← bigSep_sep']
  exact bigSep_mono fun j _ => hj j

/-- Every other device has signalled. -/
theorem pre_wait {p : PUnit → Prog (TpuEff nD τ sig (Elt F) Λ₀ .tc) α}
    (H : St m K c 0 0 0 0 0 0 0 0 0 ⊢ run c (p ⟨⟩) Q) :
    Pre m K c 32 ⊢ run c (.op (.semWait barS (31#32 : BitVec 32).toInt) p) Q := by
  unfold Pre
  iintro ⟨#HR, #HL, HO, HI, HP, HB, -, H0, HF0, HF2, HF1, HF3, HS, HE⟩
  iapply (wait_bar m K c (owing c 32 0 0)) $$ [HO HB]
  · isplitr; · iexact HR
    isplitl [HB]; · iexact HB
    isplitl [HO]; · iexact HO
    iapply (mayWait c (.reg barS) 1 32 0 0 (by rw [lv_bar]) (.inl frm_end) (.inr (by decide)) (.inr (by decide))); iexact HL
  iintro ⟨Hz, Hp, HO⟩
  ihave Hl := (landing c) $$ [Hp H0]
  · isplitl [Hp]; · iexact Hp
    iexact H0
  icases Hl with ⟨Hr, Hb⟩
  iapply H
  unfold St
  iframe HR HL HO HI HP Hz HF1 HF3 HS HE
  isplitl [HF0 Hr]
  · iapply (outFam_start m c)
    isplitl [Hr]; · iexact Hr
    iexact HF0
  isplitl [HF2 Hb]
  · iapply (backFam_start m c)
    isplitl [Hb]; · iexact Hb
    iexact HF2
  rw [rPart_none c (· < 0) (fun x _ => Nat.not_lt_zero x), bPart_none c (· < 0) (fun x _ => Nat.not_lt_zero x)]
  isplitl; · iempintro
  iempintro

end Cert.KernelIdeal.Moe

end

end
-- ==== Proof.KernelIdeal.Body.lean ====
module

public import proofs.«01_k».proof.Proof.KernelIdeal.Steps

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CellIx → ℕ) (c : Dev nD)

theorem run_bind {α β : Type} {S : sProp 𝕄} {p : Prog (TpuEff nD τ sig (Elt F) Λ₀ .tc) α} {k : α → Prog (TpuEff nD τ sig (Elt F) Λ₀ .tc) β}
    {Q : β → sProp 𝕄} (H : S ⊢ run c p fun a => run c (k a) Q) : S ⊢ run c (p >>= k) Q :=
  H.trans (Entails.of_eq (wp_bind _ _ _ p k Q).symm)
theorem run_ret {α : Type} {S : sProp 𝕄} {a : α} {Q : α → sProp 𝕄} (H : S ⊢ Q a) : S ⊢ run c (.ret a) Q := by
  unfold run; rw [wp_ret]; exact H.trans fupd_intro
theorem run_id {α : Type} {S : sProp 𝕄} {k : Dev nD → Prog (TpuEff nD τ sig (Elt F) Λ₀ .tc) α} {Q : α → sProp 𝕄} (H : S ⊢ run c (k c) Q) :
    S ⊢ run c (.op .deviceId k) Q := by
  unfold run; rw [wp_deviceId]; exact H

theorem run_part {α β : Type} {S : sProp 𝕄} {p : Prog (TpuEff nD τ sig (Elt F) Λ₀ .tc) α} {k : α → Prog (TpuEff nD τ sig (Elt F) Λ₀ .tc) β}
    {Q : β → sProp 𝕄} (H : ∀ R : α → sProp 𝕄, (R = fun a => run c (k a) Q) → S ⊢ run c p R) : S ⊢ run c (p >>= k) Q :=
  run_bind c (H _ rfl)

set_option maxHeartbeats 4000000 in
set_option maxRecDepth 65536 in
/-- The whole body, from what the launch hands over to the state in which everything has been sent, waited for and stored. -/
theorem body_run {Q : PUnit → sProp 𝕄} (H : St m K c 32 32 32 32 32 32 32 32 2 ⊢ Q ⟨⟩) :
    Pre m K c 1 ⊢ run c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Q := by
  rw [cc0_body_eq_skeleton]; unfold cc0_body_skel
  refine run_part c fun R₀ hR₀ => ?_
  rw [k0_part81_eq_skeleton]; unfold k0_part81_skel
  refine run_part c fun R hR => ?_
  rw [k0_part1_eq_skeleton]; unfold k0_part1_skel
  simp only [semSignalWord, semWaitWord, Prog.lift, Prog.bind_op, Prog.bind_ret, Prog.pure_eq_ret]
  refine run_id c ?_
  iterate 5 (refine pre_signal m K c (by decide) (by decide) (by clear * -; revert c; decide +kernel) ?_)
  refine run_ret c ?_
  subst hR
  refine run_part c fun R hR => ?_
  rw [k0_part2_eq_skeleton]; unfold k0_part2_skel
  simp only [semSignalWord, semWaitWord, Prog.lift, Prog.bind_op, Prog.bind_ret, Prog.pure_eq_ret]
  iterate 6 (refine pre_signal m K c (by decide) (by decide) (by clear * -; revert c; decide +kernel) ?_)
  refine run_ret c ?_
  subst hR
  refine run_part c fun R hR => ?_
  rw [k0_part3_eq_skeleton]; unfold k0_part3_skel
  simp only [semSignalWord, semWaitWord, Prog.lift, Prog.bind_op, Prog.bind_ret, Prog.pure_eq_ret]
  iterate 6 (refine pre_signal m K c (by decide) (by decide) (by clear * -; revert c; decide +kernel) ?_)
  refine run_ret c ?_
  subst hR
  refine run_part c fun R hR => ?_
  rw [k0_part4_eq_skeleton]; unfold k0_part4_skel
  simp only [semSignalWord, semWaitWord, Prog.lift, Prog.bind_op, Prog.bind_ret, Prog.pure_eq_ret]
  iterate 6 (refine pre_signal m K c (by decide) (by decide) (by clear * -; revert c; decide +kernel) ?_)
  refine run_ret c ?_
  subst hR
  refine run_part c fun R hR => ?_
  rw [k0_part5_eq_skeleton]; unfold k0_part5_skel
  simp only [semSignalWord, semWaitWord, Prog.lift, Prog.bind_op, Prog.bind_ret, Prog.pure_eq_ret]
  iterate 6 (refine pre_signal m K c (by decide) (by decide) (by clear * -; revert c; decide +kernel) ?_)
  refine run_ret c ?_
  subst hR
  refine run_part c fun R hR => ?_
  rw [k0_part6_eq_skeleton]; unfold k0_part6_skel
  simp only [semSignalWord, semWaitWord, Prog.lift, Prog.bind_op, Prog.bind_ret, Prog.pure_eq_ret]
  iterate 2 (refine pre_signal m K c (by decide) (by decide) (by clear * -; revert c; decide +kernel) ?_)
  refine pre_wait m K c ?_
  refine st_load_x m K c ?_
  refine st_load_rw m K c ?_
  refine st_load_rt m K c ?_
  refine run_ret c ?_
  subst hR
  refine run_part c fun R hR => ?_
  rw [k0_part7_eq_skeleton]; unfold k0_part7_skel
  simp only [semSignalWord, semWaitWord, Prog.lift, Prog.bind_op, Prog.bind_ret, Prog.pure_eq_ret]
  refine run_ret c ?_
  subst hR
  refine run_part c fun R hR => ?_
  rw [k0_part8_eq_skeleton]; unfold k0_part8_skel
  simp only [semSignalWord, semWaitWord, Prog.lift, Prog.bind_op, Prog.bind_ret, Prog.pure_eq_ret]
  refine run_ret c ?_
  subst hR
  refine run_part c fun R hR => ?_
  rw [k0_part9_eq_skeleton]; unfold k0_part9_skel
  simp only [semSignalWord, semWaitWord, Prog.lift, Prog.bind_op, Prog.bind_ret, Prog.pure_eq_ret]
  refine st_load_send m K c 0 (by decide) (by decide) fun _ => ?_
  refine st_store_send m K c (by decide) (by decide) (by decide) (by rfl) ?_
  refine st_send m K c (by decide) (by decide) (by decide) (by clear * -; revert c; decide +kernel) ?_
  refine run_ret c ?_
  subst hR
  refine run_part c fun R hR => ?_
  rw [k0_part10_eq_skeleton]; unfold k0_part10_skel
  simp only [semSignalWord, semWaitWord, Prog.lift, Prog.bind_op, Prog.bind_ret, Prog.pure_eq_ret]
  iterate 2 (refine st_send m K c (by decide) (by decide) (by decide) (by clear * -; revert c; decide +kernel) ?_)
  refine run_ret c ?_
  subst hR
  refine run_part c fun R hR => ?_
  rw [k0_part11_eq_skeleton]; unfold k0_part11_skel
  simp only [semSignalWord, semWaitWord, Prog.lift, Prog.bind_op, Prog.bind_ret, Prog.pure_eq_ret]
  iterate 2 (refine st_send m K c (by decide) (by decide) (by decide) (by clear * -; revert c; decide +kernel) ?_)
  refine run_ret c ?_
  subst hR
  refine run_part c fun R hR => ?_
  rw [k0_part12_eq_skeleton]; unfold k0_part12_skel
  simp only [semSignalWord, semWaitWord, Prog.lift, Prog.bind_op, Prog.bind_ret, Prog.pure_eq_ret]
  iterate 3 (refine st_send m K c (by decide) (by decide) (by decide) (by clear * -; revert c; decide +kernel) ?_)
  refine run_ret c ?_
  subst hR
  refine run_part c fun R hR => ?_
  rw [k0_part13_eq_skeleton]; unfold k0_part13_skel
  simp only [semSignalWord, semWaitWord, Prog.lift, Prog.bind_op, Prog.bind_ret, Prog.pure_eq_ret]
  refine st_load_send m K c 8 (by decide) (by decide) fun _ => ?_
  refine st_store_send m K c (by decide) (by decide) (by decide) (by rfl) ?_
  refine st_send m K c (by decide) (by decide) (by decide) (by clear * -; revert c; decide +kernel) ?_
  refine run_ret c ?_
  subst hR
  refine run_part c fun R hR => ?_
  rw [k0_part14_eq_skeleton]; unfold k0_part14_skel
  simp only [semSignalWord, semWaitWord, Prog.lift, Prog.bind_op, Prog.bind_ret, Prog.pure_eq_ret]
  iterate 3 (refine st_send m K c (by decide) (by decide) (by decide) (by clear * -; revert c; decide +kernel) ?_)
  refine run_ret c ?_
  subst hR
  refine run_part c fun R hR => ?_
  rw [k0_part15_eq_skeleton]; unfold k0_part15_skel
  simp only [semSignalWord, semWaitWord, Prog.lift, Prog.bind_op, Prog.bind_ret, Prog.pure_eq_ret]
  iterate 2 (refine st_send m K c (by decide) (by decide) (by decide) (by clear * -; revert c; decide +kernel) ?_)
  refine run_ret c ?_
  subst hR
  refine run_part c fun R hR => ?_
  rw [k0_part16_eq_skeleton]; unfold k0_part16_skel
  simp only [semSignalWord, semWaitWord, Prog.lift, Prog.bind_op, Prog.bind_ret, Prog.pure_eq_ret]
  iterate 2 (refine st_send m K c (by decide) (by decide) (by decide) (by clear * -; revert c; decide +kernel) ?_)
  refine st_load_send m K c 16 (by decide) (by decide) fun _ => ?_
  refine st_store_send m K c (by decide) (by decide) (by decide) (by rfl) ?_
  refine run_ret c ?_
  subst hR
  refine run_part c fun R hR => ?_
  rw [k0_part17_eq_skeleton]; unfold k0_part17_skel
  simp only [semSignalWord, semWaitWord, Prog.lift, Prog.bind_op, Prog.bind_ret, Prog.pure_eq_ret]
  iterate 2 (refine st_send m K c (by decide) (by decide) (by decide) (by clear * -; revert c; decide +kernel) ?_)
  refine run_ret c ?_
  subst hR
  refine run_part c fun R hR => ?_
  rw [k0_part18_eq_skeleton]; unfold k0_part18_skel
  simp only [semSignalWord, semWaitWord, Prog.lift, Prog.bind_op, Prog.bind_ret, Prog.pure_eq_ret]
  iterate 3 (refine st_send m K c (by decide) (by decide) (by decide) (by clear * -; revert c; decide +kernel) ?_)
  refine run_ret c ?_
  subst hR
  refine run_part c fun R hR => ?_
  rw [k0_part19_eq_skeleton]; unfold k0_part19_skel
  simp only [semSignalWord, semWaitWord, Prog.lift, Prog.bind_op, Prog.bind_ret, Prog.pure_eq_ret]
  iterate 2 (refine st_send m K c (by decide) (by decide) (by decide) (by clear * -; revert c; decide +kernel) ?_)
  refine run_ret c ?_
  subst hR
  refine run_part c fun R hR => ?_
  rw [k0_part20_eq_skeleton]; unfold k0_part20_skel
  simp only [semSignalWord, semWaitWord, Prog.lift, Prog.bind_op, Prog.bind_ret, Prog.pure_eq_ret]
  refine st_send m K c (by decide) (by decide) (by decide) (by clear * -; revert c; decide +kernel) ?_
  refine st_load_send m K c 24 (by decide) (by decide) fun _ => ?_
  refine st_store_send m K c (by decide) (by decide) (by decide) (by rfl) ?_
  refine st_send m K c (by decide) (by decide) (by decide) (by clear * -; revert c; decide +kernel) ?_
  refine run_ret c ?_
  subst hR
  refine run_part c fun R hR => ?_
  rw [k0_part21_eq_skeleton]; unfold k0_part21_skel
  simp only [semSignalWord, semWaitWord, Prog.lift, Prog.bind_op, Prog.bind_ret, Prog.pure_eq_ret]
  iterate 2 (refine st_send m K c (by decide) (by decide) (by decide) (by clear * -; revert c; decide +kernel) ?_)
  refine run_ret c ?_
  subst hR
  refine run_part c fun R hR => ?_
  rw [k0_part22_eq_skeleton]; unfold k0_part22_skel
  simp only [semSignalWord, semWaitWord, Prog.lift, Prog.bind_op, Prog.bind_ret, Prog.pure_eq_ret]
  iterate 2 (refine st_send m K c (by decide) (by decide) (by decide) (by clear * -; revert c; decide +kernel) ?_)
  refine run_ret c ?_
  subst hR
  refine run_part c fun R hR => ?_
  rw [k0_part23_eq_skeleton]; unfold k0_part23_skel
  simp only [semSignalWord, semWaitWord, Prog.lift, Prog.bind_op, Prog.bind_ret, Prog.pure_eq_ret]
  iterate 3 (refine st_send m K c (by decide) (by decide) (by decide) (by clear * -; revert c; decide +kernel) ?_)
  refine st_load_sw m K c ?_
  refine run_ret c ?_
  subst hR
  refine run_part c fun R hR => ?_
  rw [k0_part24_eq_skeleton]; unfold k0_part24_skel
  simp only [semSignalWord, semWaitWord, Prog.lift, Prog.bind_op, Prog.bind_ret, Prog.pure_eq_ret]
  refine st_load_out0 m K c fun _ => ?_
  refine st_store_shared m K c (by rfl) ?_
  refine st_sent m K c (by decide) (by decide) ?_
  refine st_arrived m K c (by decide) ?_
  refine st_sent m K c (by decide) (by decide) ?_
  refine run_ret c ?_
  subst hR
  refine run_part c fun R hR => ?_
  rw [k0_part25_eq_skeleton]; unfold k0_part25_skel
  simp only [semSignalWord, semWaitWord, Prog.lift, Prog.bind_op, Prog.bind_ret, Prog.pure_eq_ret]
  refine st_arrived m K c (by decide) ?_
  refine st_sent m K c (by decide) (by decide) ?_
  refine st_arrived m K c (by decide) ?_
  refine run_ret c ?_
  subst hR
  refine run_part c fun R hR => ?_
  rw [k0_part26_eq_skeleton]; unfold k0_part26_skel
  simp only [semSignalWord, semWaitWord, Prog.lift, Prog.bind_op, Prog.bind_ret, Prog.pure_eq_ret]
  refine st_sent m K c (by decide) (by decide) ?_
  refine st_arrived m K c (by decide) ?_
  refine st_sent m K c (by decide) (by decide) ?_
  refine st_arrived m K c (by decide) ?_
  refine run_ret c ?_
  subst hR
  refine run_part c fun R hR => ?_
  rw [k0_part27_eq_skeleton]; unfold k0_part27_skel
  simp only [semSignalWord, semWaitWord, Prog.lift, Prog.bind_op, Prog.bind_ret, Prog.pure_eq_ret]
  refine st_sent m K c (by decide) (by decide) ?_
  refine st_arrived m K c (by decide) ?_
  refine st_sent m K c (by decide) (by decide) ?_
  refine run_ret c ?_
  subst hR
  refine run_part c fun R hR => ?_
  rw [k0_part28_eq_skeleton]; unfold k0_part28_skel
  simp only [semSignalWord, semWaitWord, Prog.lift, Prog.bind_op, Prog.bind_ret, Prog.pure_eq_ret]
  refine st_arrived m K c (by decide) ?_
  refine st_sent m K c (by decide) (by decide) ?_
  refine st_arrived m K c (by decide) ?_
  refine st_load_recv m K c 0 (by decide) (by decide) ?_
  refine run_ret c ?_
  subst hR
  refine run_part c fun R hR => ?_
  rw [k0_part29_eq_skeleton]; unfold k0_part29_skel
  simp only [semSignalWord, semWaitWord, Prog.lift, Prog.bind_op, Prog.bind_ret, Prog.pure_eq_ret]
  refine st_load_exp m K c 0 (by decide) ?_
  refine st_load_exp m K c 1 (by decide) ?_
  refine st_load_exp m K c 2 (by decide) ?_
  refine st_load_exp m K c 3 (by decide) ?_
  refine run_ret c ?_
  subst hR
  refine run_part c fun R hR => ?_
  rw [k0_part30_eq_skeleton]; unfold k0_part30_skel
  simp only [semSignalWord, semWaitWord, Prog.lift, Prog.bind_op, Prog.bind_ret, Prog.pure_eq_ret]
  refine st_load_res m K c 0 (by decide) (by decide) fun _ => ?_
  refine st_store_res m K c (by decide) (by decide) (by decide) (by rfl) ?_
  refine st_back m K c (by decide) (by decide) (by decide) (by clear * -; revert c; decide +kernel) ?_
  refine run_ret c ?_
  subst hR
  refine run_part c fun R hR => ?_
  rw [k0_part31_eq_skeleton]; unfold k0_part31_skel
  simp only [semSignalWord, semWaitWord, Prog.lift, Prog.bind_op, Prog.bind_ret, Prog.pure_eq_ret]
  iterate 3 (refine st_back m K c (by decide) (by decide) (by decide) (by clear * -; revert c; decide +kernel) ?_)
  refine run_ret c ?_
  subst hR
  refine run_part c fun R hR => ?_
  rw [k0_part32_eq_skeleton]; unfold k0_part32_skel
  simp only [semSignalWord, semWaitWord, Prog.lift, Prog.bind_op, Prog.bind_ret, Prog.pure_eq_ret]
  iterate 2 (refine st_back m K c (by decide) (by decide) (by decide) (by clear * -; revert c; decide +kernel) ?_)
  refine run_ret c ?_
  subst hR
  refine run_part c fun R hR => ?_
  rw [k0_part33_eq_skeleton]; unfold k0_part33_skel
  simp only [semSignalWord, semWaitWord, Prog.lift, Prog.bind_op, Prog.bind_ret, Prog.pure_eq_ret]
  iterate 2 (refine st_back m K c (by decide) (by decide) (by decide) (by clear * -; revert c; decide +kernel) ?_)
  refine st_sent m K c (by decide) (by decide) ?_
  refine run_ret c ?_
  subst hR
  refine run_part c fun R hR => ?_
  rw [k0_part34_eq_skeleton]; unfold k0_part34_skel
  simp only [semSignalWord, semWaitWord, Prog.lift, Prog.bind_op, Prog.bind_ret, Prog.pure_eq_ret]
  refine st_arrived m K c (by decide) ?_
  refine st_sent m K c (by decide) (by decide) ?_
  refine st_arrived m K c (by decide) ?_
  refine run_ret c ?_
  subst hR
  refine run_part c fun R hR => ?_
  rw [k0_part35_eq_skeleton]; unfold k0_part35_skel
  simp only [semSignalWord, semWaitWord, Prog.lift, Prog.bind_op, Prog.bind_ret, Prog.pure_eq_ret]
  refine st_sent m K c (by decide) (by decide) ?_
  refine st_arrived m K c (by decide) ?_
  refine st_sent m K c (by decide) (by decide) ?_
  refine run_ret c ?_
  subst hR
  refine run_part c fun R hR => ?_
  rw [k0_part36_eq_skeleton]; unfold k0_part36_skel
  simp only [semSignalWord, semWaitWord, Prog.lift, Prog.bind_op, Prog.bind_ret, Prog.pure_eq_ret]
  refine st_arrived m K c (by decide) ?_
  refine st_sent m K c (by decide) (by decide) ?_
  refine st_arrived m K c (by decide) ?_
  refine st_sent m K c (by decide) (by decide) ?_
  refine run_ret c ?_
  subst hR
  refine run_part c fun R hR => ?_
  rw [k0_part37_eq_skeleton]; unfold k0_part37_skel
  simp only [semSignalWord, semWaitWord, Prog.lift, Prog.bind_op, Prog.bind_ret, Prog.pure_eq_ret]
  refine st_arrived m K c (by decide) ?_
  refine st_sent m K c (by decide) (by decide) ?_
  refine st_arrived m K c (by decide) ?_
  refine run_ret c ?_
  subst hR
  refine run_part c fun R hR => ?_
  rw [k0_part38_eq_skeleton]; unfold k0_part38_skel
  simp only [semSignalWord, semWaitWord, Prog.lift, Prog.bind_op, Prog.bind_ret, Prog.pure_eq_ret]
  refine st_sent m K c (by decide) (by decide) ?_
  refine st_arrived m K c (by decide) ?_
  refine st_load_recv m K c 8 (by decide) (by decide) ?_
  refine st_load_exp m K c 0 (by decide) ?_
  refine run_ret c ?_
  subst hR
  refine run_part c fun R hR => ?_
  rw [k0_part39_eq_skeleton]; unfold k0_part39_skel
  simp only [semSignalWord, semWaitWord, Prog.lift, Prog.bind_op, Prog.bind_ret, Prog.pure_eq_ret]
  refine st_load_exp m K c 1 (by decide) ?_
  refine st_load_exp m K c 2 (by decide) ?_
  refine st_load_exp m K c 3 (by decide) ?_
  refine st_load_res m K c 8 (by decide) (by decide) fun _ => ?_
  refine st_store_res m K c (by decide) (by decide) (by decide) (by rfl) ?_
  refine run_ret c ?_
  subst hR
  refine run_part c fun R hR => ?_
  rw [k0_part40_eq_skeleton]; unfold k0_part40_skel
  simp only [semSignalWord, semWaitWord, Prog.lift, Prog.bind_op, Prog.bind_ret, Prog.pure_eq_ret]
  iterate 2 (refine st_back m K c (by decide) (by decide) (by decide) (by clear * -; revert c; decide +kernel) ?_)
  refine run_ret c ?_
  subst hR
  refine run_part c fun R hR => ?_
  rw [k0_part41_eq_skeleton]; unfold k0_part41_skel
  simp only [semSignalWord, semWaitWord, Prog.lift, Prog.bind_op, Prog.bind_ret, Prog.pure_eq_ret]
  iterate 2 (refine st_back m K c (by decide) (by decide) (by decide) (by clear * -; revert c; decide +kernel) ?_)
  refine run_ret c ?_
  subst hR
  refine run_part c fun R hR => ?_
  rw [k0_part42_eq_skeleton]; unfold k0_part42_skel
  simp only [semSignalWord, semWaitWord, Prog.lift, Prog.bind_op, Prog.bind_ret, Prog.pure_eq_ret]
  iterate 3 (refine st_back m K c (by decide) (by decide) (by decide) (by clear * -; revert c; decide +kernel) ?_)
  refine run_ret c ?_
  subst hR
  refine run_part c fun R hR => ?_
  rw [k0_part43_eq_skeleton]; unfold k0_part43_skel
  simp only [semSignalWord, semWaitWord, Prog.lift, Prog.bind_op, Prog.bind_ret, Prog.pure_eq_ret]
  refine st_back m K c (by decide) (by decide) (by decide) (by clear * -; revert c; decide +kernel) ?_
  refine st_sent m K c (by decide) (by decide) ?_
  refine st_arrived m K c (by decide) ?_
  refine run_ret c ?_
  subst hR
  refine run_part c fun R hR => ?_
  rw [k0_part44_eq_skeleton]; unfold k0_part44_skel
  simp only [semSignalWord, semWaitWord, Prog.lift, Prog.bind_op, Prog.bind_ret, Prog.pure_eq_ret]
  refine st_sent m K c (by decide) (by decide) ?_
  refine st_arrived m K c (by decide) ?_
  refine st_sent m K c (by decide) (by decide) ?_
  refine run_ret c ?_
  subst hR
  refine run_part c fun R hR => ?_
  rw [k0_part45_eq_skeleton]; unfold k0_part45_skel
  simp only [semSignalWord, semWaitWord, Prog.lift, Prog.bind_op, Prog.bind_ret, Prog.pure_eq_ret]
  refine st_arrived m K c (by decide) ?_
  refine st_sent m K c (by decide) (by decide) ?_
  refine st_arrived m K c (by decide) ?_
  refine st_sent m K c (by decide) (by decide) ?_
  refine run_ret c ?_
  subst hR
  refine run_part c fun R hR => ?_
  rw [k0_part46_eq_skeleton]; unfold k0_part46_skel
  simp only [semSignalWord, semWaitWord, Prog.lift, Prog.bind_op, Prog.bind_ret, Prog.pure_eq_ret]
  refine st_arrived m K c (by decide) ?_
  refine st_sent m K c (by decide) (by decide) ?_
  refine st_arrived m K c (by decide) ?_
  refine run_ret c ?_
  subst hR
  refine run_part c fun R hR => ?_
  rw [k0_part47_eq_skeleton]; unfold k0_part47_skel
  simp only [semSignalWord, semWaitWord, Prog.lift, Prog.bind_op, Prog.bind_ret, Prog.pure_eq_ret]
  refine st_sent m K c (by decide) (by decide) ?_
  refine st_arrived m K c (by decide) ?_
  refine st_sent m K c (by decide) (by decide) ?_
  refine run_ret c ?_
  subst hR
  refine run_part c fun R hR => ?_
  rw [k0_part48_eq_skeleton]; unfold k0_part48_skel
  simp only [semSignalWord, semWaitWord, Prog.lift, Prog.bind_op, Prog.bind_ret, Prog.pure_eq_ret]
  refine st_arrived m K c (by decide) ?_
  refine st_load_recv m K c 16 (by decide) (by decide) ?_
  refine st_load_exp m K c 0 (by decide) ?_
  refine st_load_exp m K c 1 (by decide) ?_
  refine st_load_exp m K c 2 (by decide) ?_
  refine run_ret c ?_
  subst hR
  refine run_part c fun R hR => ?_
  rw [k0_part49_eq_skeleton]; unfold k0_part49_skel
  simp only [semSignalWord, semWaitWord, Prog.lift, Prog.bind_op, Prog.bind_ret, Prog.pure_eq_ret]
  refine st_load_exp m K c 3 (by decide) ?_
  refine st_load_res m K c 16 (by decide) (by decide) fun _ => ?_
  refine st_store_res m K c (by decide) (by decide) (by decide) (by rfl) ?_
  refine st_back m K c (by decide) (by decide) (by decide) (by clear * -; revert c; decide +kernel) ?_
  refine run_ret c ?_
  subst hR
  refine run_part c fun R hR => ?_
  rw [k0_part50_eq_skeleton]; unfold k0_part50_skel
  simp only [semSignalWord, semWaitWord, Prog.lift, Prog.bind_op, Prog.bind_ret, Prog.pure_eq_ret]
  iterate 2 (refine st_back m K c (by decide) (by decide) (by decide) (by clear * -; revert c; decide +kernel) ?_)
  refine run_ret c ?_
  subst hR
  refine run_part c fun R hR => ?_
  rw [k0_part51_eq_skeleton]; unfold k0_part51_skel
  simp only [semSignalWord, semWaitWord, Prog.lift, Prog.bind_op, Prog.bind_ret, Prog.pure_eq_ret]
  iterate 2 (refine st_back m K c (by decide) (by decide) (by decide) (by clear * -; revert c; decide +kernel) ?_)
  refine run_ret c ?_
  subst hR
  refine run_part c fun R hR => ?_
  rw [k0_part52_eq_skeleton]; unfold k0_part52_skel
  simp only [semSignalWord, semWaitWord, Prog.lift, Prog.bind_op, Prog.bind_ret, Prog.pure_eq_ret]
  iterate 2 (refine st_back m K c (by decide) (by decide) (by decide) (by clear * -; revert c; decide +kernel) ?_)
  refine run_ret c ?_
  subst hR
  refine run_part c fun R hR => ?_
  rw [k0_part53_eq_skeleton]; unfold k0_part53_skel
  simp only [semSignalWord, semWaitWord, Prog.lift, Prog.bind_op, Prog.bind_ret, Prog.pure_eq_ret]
  refine st_back m K c (by decide) (by decide) (by decide) (by clear * -; revert c; decide +kernel) ?_
  refine st_sent m K c (by decide) (by decide) ?_
  refine st_arrived m K c (by decide) ?_
  refine st_sent m K c (by decide) (by decide) ?_
  refine run_ret c ?_
  subst hR
  refine run_part c fun R hR => ?_
  rw [k0_part54_eq_skeleton]; unfold k0_part54_skel
  simp only [semSignalWord, semWaitWord, Prog.lift, Prog.bind_op, Prog.bind_ret, Prog.pure_eq_ret]
  refine st_arrived m K c (by decide) ?_
  refine st_sent m K c (by decide) (by decide) ?_
  refine st_arrived m K c (by decide) ?_
  refine run_ret c ?_
  subst hR
  refine run_part c fun R hR => ?_
  rw [k0_part55_eq_skeleton]; unfold k0_part55_skel
  simp only [semSignalWord, semWaitWord, Prog.lift, Prog.bind_op, Prog.bind_ret, Prog.pure_eq_ret]
  refine st_sent m K c (by decide) (by decide) ?_
  refine st_arrived m K c (by decide) ?_
  refine st_sent m K c (by decide) (by decide) ?_
  refine st_arrived m K c (by decide) ?_
  refine run_ret c ?_
  subst hR
  refine run_part c fun R hR => ?_
  rw [k0_part56_eq_skeleton]; unfold k0_part56_skel
  simp only [semSignalWord, semWaitWord, Prog.lift, Prog.bind_op, Prog.bind_ret, Prog.pure_eq_ret]
  refine st_sent m K c (by decide) (by decide) ?_
  refine st_arrived m K c (by decide) ?_
  refine st_sent m K c (by decide) (by decide) ?_
  refine run_ret c ?_
  subst hR
  refine run_part c fun R hR => ?_
  rw [k0_part57_eq_skeleton]; unfold k0_part57_skel
  simp only [semSignalWord, semWaitWord, Prog.lift, Prog.bind_op, Prog.bind_ret, Prog.pure_eq_ret]
  refine st_arrived m K c (by decide) ?_
  refine st_sent m K c (by decide) (by decide) ?_
  refine st_arrived m K c (by decide) ?_
  refine st_load_recv m K c 24 (by decide) (by decide) ?_
  refine run_ret c ?_
  subst hR
  refine run_part c fun R hR => ?_
  rw [k0_part58_eq_skeleton]; unfold k0_part58_skel
  simp only [semSignalWord, semWaitWord, Prog.lift, Prog.bind_op, Prog.bind_ret, Prog.pure_eq_ret]
  refine st_load_exp m K c 0 (by decide) ?_
  refine st_load_exp m K c 1 (by decide) ?_
  refine st_load_exp m K c 2 (by decide) ?_
  refine st_load_exp m K c 3 (by decide) ?_
  refine run_ret c ?_
  subst hR
  refine run_part c fun R hR => ?_
  rw [k0_part59_eq_skeleton]; unfold k0_part59_skel
  simp only [semSignalWord, semWaitWord, Prog.lift, Prog.bind_op, Prog.bind_ret, Prog.pure_eq_ret]
  refine st_load_res m K c 24 (by decide) (by decide) fun _ => ?_
  refine st_store_res m K c (by decide) (by decide) (by decide) (by rfl) ?_
  iterate 2 (refine st_back m K c (by decide) (by decide) (by decide) (by clear * -; revert c; decide +kernel) ?_)
  refine run_ret c ?_
  subst hR
  refine run_part c fun R hR => ?_
  rw [k0_part60_eq_skeleton]; unfold k0_part60_skel
  simp only [semSignalWord, semWaitWord, Prog.lift, Prog.bind_op, Prog.bind_ret, Prog.pure_eq_ret]
  iterate 2 (refine st_back m K c (by decide) (by decide) (by decide) (by clear * -; revert c; decide +kernel) ?_)
  refine run_ret c ?_
  subst hR
  refine run_ret c ?_
  subst hR₀
  refine run_part c fun R₀ hR₀ => ?_
  rw [k0_part82_eq_skeleton]; unfold k0_part82_skel
  refine run_part c fun R hR => ?_
  rw [k0_part61_eq_skeleton]; unfold k0_part61_skel
  simp only [semSignalWord, semWaitWord, Prog.lift, Prog.bind_op, Prog.bind_ret, Prog.pure_eq_ret]
  iterate 2 (refine st_back m K c (by decide) (by decide) (by decide) (by clear * -; revert c; decide +kernel) ?_)
  refine run_ret c ?_
  subst hR
  refine run_part c fun R hR => ?_
  rw [k0_part62_eq_skeleton]; unfold k0_part62_skel
  simp only [semSignalWord, semWaitWord, Prog.lift, Prog.bind_op, Prog.bind_ret, Prog.pure_eq_ret]
  iterate 2 (refine st_back m K c (by decide) (by decide) (by decide) (by clear * -; revert c; decide +kernel) ?_)
  refine st_returned m K c (by decide) (by decide) ?_
  refine run_ret c ?_
  subst hR
  refine run_part c fun R hR => ?_
  rw [k0_part63_eq_skeleton]; unfold k0_part63_skel
  simp only [semSignalWord, semWaitWord, Prog.lift, Prog.bind_op, Prog.bind_ret, Prog.pure_eq_ret]
  refine st_home m K c (by decide) ?_
  refine st_returned m K c (by decide) (by decide) ?_
  refine st_home m K c (by decide) ?_
  refine run_ret c ?_
  subst hR
  refine run_part c fun R hR => ?_
  rw [k0_part64_eq_skeleton]; unfold k0_part64_skel
  simp only [semSignalWord, semWaitWord, Prog.lift, Prog.bind_op, Prog.bind_ret, Prog.pure_eq_ret]
  refine st_returned m K c (by decide) (by decide) ?_
  refine st_home m K c (by decide) ?_
  refine st_returned m K c (by decide) (by decide) ?_
  refine st_home m K c (by decide) ?_
  refine run_ret c ?_
  subst hR
  refine run_part c fun R hR => ?_
  rw [k0_part65_eq_skeleton]; unfold k0_part65_skel
  simp only [semSignalWord, semWaitWord, Prog.lift, Prog.bind_op, Prog.bind_ret, Prog.pure_eq_ret]
  refine st_returned m K c (by decide) (by decide) ?_
  refine st_home m K c (by decide) ?_
  refine st_returned m K c (by decide) (by decide) ?_
  refine run_ret c ?_
  subst hR
  refine run_part c fun R hR => ?_
  rw [k0_part66_eq_skeleton]; unfold k0_part66_skel
  simp only [semSignalWord, semWaitWord, Prog.lift, Prog.bind_op, Prog.bind_ret, Prog.pure_eq_ret]
  refine st_home m K c (by decide) ?_
  refine st_returned m K c (by decide) (by decide) ?_
  refine st_home m K c (by decide) ?_
  refine run_ret c ?_
  subst hR
  refine run_part c fun R hR => ?_
  rw [k0_part67_eq_skeleton]; unfold k0_part67_skel
  simp only [semSignalWord, semWaitWord, Prog.lift, Prog.bind_op, Prog.bind_ret, Prog.pure_eq_ret]
  refine st_returned m K c (by decide) (by decide) ?_
  refine st_home m K c (by decide) ?_
  refine st_returned m K c (by decide) (by decide) ?_
  refine st_home m K c (by decide) ?_
  refine run_ret c ?_
  subst hR
  refine run_part c fun R hR => ?_
  rw [k0_part68_eq_skeleton]; unfold k0_part68_skel
  simp only [semSignalWord, semWaitWord, Prog.lift, Prog.bind_op, Prog.bind_ret, Prog.pure_eq_ret]
  refine st_returned m K c (by decide) (by decide) ?_
  refine st_home m K c (by decide) ?_
  refine st_returned m K c (by decide) (by decide) ?_
  refine run_ret c ?_
  subst hR
  refine run_part c fun R hR => ?_
  rw [k0_part69_eq_skeleton]; unfold k0_part69_skel
  simp only [semSignalWord, semWaitWord, Prog.lift, Prog.bind_op, Prog.bind_ret, Prog.pure_eq_ret]
  refine st_home m K c (by decide) ?_
  refine st_returned m K c (by decide) (by decide) ?_
  refine st_home m K c (by decide) ?_
  refine st_returned m K c (by decide) (by decide) ?_
  refine run_ret c ?_
  subst hR
  refine run_part c fun R hR => ?_
  rw [k0_part70_eq_skeleton]; unfold k0_part70_skel
  simp only [semSignalWord, semWaitWord, Prog.lift, Prog.bind_op, Prog.bind_ret, Prog.pure_eq_ret]
  refine st_home m K c (by decide) ?_
  refine st_returned m K c (by decide) (by decide) ?_
  refine st_home m K c (by decide) ?_
  refine run_ret c ?_
  subst hR
  refine run_part c fun R hR => ?_
  rw [k0_part71_eq_skeleton]; unfold k0_part71_skel
  simp only [semSignalWord, semWaitWord, Prog.lift, Prog.bind_op, Prog.bind_ret, Prog.pure_eq_ret]
  refine st_returned m K c (by decide) (by decide) ?_
  refine st_home m K c (by decide) ?_
  refine st_returned m K c (by decide) (by decide) ?_
  refine st_home m K c (by decide) ?_
  refine run_ret c ?_
  subst hR
  refine run_part c fun R hR => ?_
  rw [k0_part72_eq_skeleton]; unfold k0_part72_skel
  simp only [semSignalWord, semWaitWord, Prog.lift, Prog.bind_op, Prog.bind_ret, Prog.pure_eq_ret]
  refine st_returned m K c (by decide) (by decide) ?_
  refine st_home m K c (by decide) ?_
  refine st_returned m K c (by decide) (by decide) ?_
  refine run_ret c ?_
  subst hR
  refine run_part c fun R hR => ?_
  rw [k0_part73_eq_skeleton]; unfold k0_part73_skel
  simp only [semSignalWord, semWaitWord, Prog.lift, Prog.bind_op, Prog.bind_ret, Prog.pure_eq_ret]
  refine st_home m K c (by decide) ?_
  refine st_returned m K c (by decide) (by decide) ?_
  refine st_home m K c (by decide) ?_
  refine run_ret c ?_
  subst hR
  refine run_part c fun R hR => ?_
  rw [k0_part74_eq_skeleton]; unfold k0_part74_skel
  simp only [semSignalWord, semWaitWord, Prog.lift, Prog.bind_op, Prog.bind_ret, Prog.pure_eq_ret]
  refine st_returned m K c (by decide) (by decide) ?_
  refine st_home m K c (by decide) ?_
  refine st_returned m K c (by decide) (by decide) ?_
  refine st_home m K c (by decide) ?_
  refine run_ret c ?_
  subst hR
  refine run_part c fun R hR => ?_
  rw [k0_part75_eq_skeleton]; unfold k0_part75_skel
  simp only [semSignalWord, semWaitWord, Prog.lift, Prog.bind_op, Prog.bind_ret, Prog.pure_eq_ret]
  refine st_returned m K c (by decide) (by decide) ?_
  refine st_home m K c (by decide) ?_
  refine st_returned m K c (by decide) (by decide) ?_
  refine run_ret c ?_
  subst hR
  refine run_part c fun R hR => ?_
  rw [k0_part76_eq_skeleton]; unfold k0_part76_skel
  simp only [semSignalWord, semWaitWord, Prog.lift, Prog.bind_op, Prog.bind_ret, Prog.pure_eq_ret]
  refine st_home m K c (by decide) ?_
  refine st_returned m K c (by decide) (by decide) ?_
  refine st_home m K c (by decide) ?_
  refine st_returned m K c (by decide) (by decide) ?_
  refine run_ret c ?_
  subst hR
  refine run_part c fun R hR => ?_
  rw [k0_part77_eq_skeleton]; unfold k0_part77_skel
  simp only [semSignalWord, semWaitWord, Prog.lift, Prog.bind_op, Prog.bind_ret, Prog.pure_eq_ret]
  refine st_home m K c (by decide) ?_
  refine st_returned m K c (by decide) (by decide) ?_
  refine st_home m K c (by decide) ?_
  refine run_ret c ?_
  subst hR
  refine run_part c fun R hR => ?_
  rw [k0_part78_eq_skeleton]; unfold k0_part78_skel
  simp only [semSignalWord, semWaitWord, Prog.lift, Prog.bind_op, Prog.bind_ret, Prog.pure_eq_ret]
  refine st_returned m K c (by decide) (by decide) ?_
  refine st_home m K c (by decide) ?_
  refine st_returned m K c (by decide) (by decide) ?_
  refine st_home m K c (by decide) ?_
  refine run_ret c ?_
  subst hR
  refine run_part c fun R hR => ?_
  rw [k0_part79_eq_skeleton]; unfold k0_part79_skel
  simp only [semSignalWord, semWaitWord, Prog.lift, Prog.bind_op, Prog.bind_ret, Prog.pure_eq_ret]
  refine st_returned m K c (by decide) (by decide) ?_
  refine st_home m K c (by decide) ?_
  refine st_returned m K c (by decide) (by decide) ?_
  refine run_ret c ?_
  subst hR
  refine run_part c fun R hR => ?_
  rw [k0_part80_eq_skeleton]; unfold k0_part80_skel
  simp only [semSignalWord, semWaitWord, Prog.lift, Prog.bind_op, Prog.bind_ret, Prog.pure_eq_ret]
  refine st_home m K c (by decide) ?_
  refine st_returned m K c (by decide) (by decide) ?_
  refine st_home m K c (by decide) ?_
  refine run_ret c ?_
  subst hR
  simp only [semSignalWord, semWaitWord, Prog.lift, Prog.bind_op, Prog.bind_ret, Prog.pure_eq_ret]
  refine st_returned m K c (by decide) (by decide) ?_
  refine st_home m K c (by decide) ?_
  refine st_load_back m K c ?_
  refine st_load_out1 m K c ?_
  refine run_ret c ?_
  subst hR₀
  simp only [semSignalWord, semWaitWord, Prog.lift, Prog.bind_op, Prog.bind_ret, Prog.pure_eq_ret]
  refine st_load_out1 m K c ?_
  refine st_store_out m K c (by rfl) ?_
  exact run_ret c H

end Cert.KernelIdeal.Moe

end

end
-- ==== Proof.KernelIdeal.Launch.lean ====
module

public import proofs.«01_k».proof.Proof.KernelIdeal.Ghost
public import Idealize.ShloMosaic.Lib.Pipeline.CollectiveSegs
public import proofs.«01_k».proof.Proof.KernelIdeal.Body

/-!
# The run of the program

The body between its launch state and its final state, and the run of the whole mesh from it.
-/
@[expose] public section

set_option maxRecDepth 65536

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Start and end of a device's run -/

/-- What a device is given at launch. -/
def start (c : Dev nD) : sProp 𝕄 :=
  iprop(G' m c ∗ (cred (tallyAt (barCell c) () 31) ∗ (bigSep Finset.univ fun j : Fin 32 => cred (tallyAt (xCell c 1 j) () N₁))
    ∗ bigSep Finset.univ fun j : Fin 32 => cred (tallyAt (xCell c 3 j) () N₂)) ∗ levAts L lv)

/-- The four scratch buffers, holding anything. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scratch c)
/-- Everything is the device's own again: its scratch buffers and its semaphores, all at zero. -/
def Φ₁ (c : Dev nD) : sProp 𝕄 :=
  iprop(semVal (barCell c) 0 ∗ (bigSep Finset.univ fun p : Fin 4 × Fin 32 => semVal (xCell c p.1 p.2) 0) ∗ scratch c)

/-- A device's position in a kind of cells, all distances. -/
theorem linear_split (c : Dev nD) : (linear c : sProp 𝕄) = iprop((atPos ER (barCell c) 0 ∅ 0
    ∗ (bigSep Finset.univ fun j : Fin 32 => atPos ER (xCell c 0 j) 0 ∅ 0) ∗ (bigSep Finset.univ fun j : Fin 32 => atPos ER (xCell c 1 j) 0 ∅ 0)
    ∗ (bigSep Finset.univ fun j : Fin 32 => atPos ER (xCell c 2 j) 0 ∅ 0) ∗ (bigSep Finset.univ fun j : Fin 32 => atPos ER (xCell c 3 j) 0 ∅ 0))
    ∗ payToks c) := by
  unfold linear; rw [bigSep_cells, bigSep_univ_prod, bigSep_kinds]

/-- The receiving side of a kind, before anything has arrived. -/
theorem recvFam_start (c : Dev nD) (k : Fin 4) (n : ℕ) (h : credit k = n) :
    iprop((bigSep Finset.univ fun j : Fin 32 => atPos ER (xCell c k j) 0 ∅ 0) ∗ bigSep Finset.univ fun j : Fin 32 => cred (tallyAt (xCell c k j) () n))
      ⊢ (bigSep Finset.univ (recvFam c k 0) : sProp 𝕄) := by
  subst h
  have hj : ∀ j, iprop(atPos ER (xCell c k j) 0 ∅ 0 ∗ cred (tallyAt (xCell c k j) () (credit k))) ⊢ (recvFam c k 0 j : sProp 𝕄) := fun j => by
    unfold recvFam; rw [if_neg (Nat.not_lt_zero _)]
  rw [← bigSep_sep']; exact bigSep_mono fun j _ => hj j

/-- The landing buffers, cut into blocks and dealt to the signals that hand them over; block 0 stays. -/
theorem give_start (c : Dev nD) (f : Buf (Elt F) ((c : Thread nD τ).loc cc0_scratch1)) (g : Buf (Elt F) ((c : Thread nD τ).loc cc0_scratch3)) :
    iprop((bigSep Finset.univ fun j : Fin 32 => dutyTok ER (barCell (fwd c j)) 0 j)
        ∗ (((c : Thread nD τ).loc cc0_scratch1) ↦{fullShare} f) ∗ (((c : Thread nD τ).loc cc0_scratch3) ↦{fullShare} g))
      ⊢ (iprop(bigSep (frm 1) (giveFam c) ∗ ((∃ f, rPart c (· = 0) f) ∗ ∃ f, bPart c (· = 0) f)) : sProp 𝕄) := by
  have hj : ∀ j, iprop(dutyTok ER (barCell (fwd c j)) 0 j ∗ rPart c (· = (opp j).val) f ∗ bPart c (· = j.val) g) ⊢ (giveFam c j : sProp 𝕄) := fun j => by
    unfold giveFam
    iintro ⟨H1, H2, H3⟩
    isplitl [H1]; · iexact H1
    isplitl [H2]; · iexists f; iexact H2
    iexists g; iexact H3
  have h0 : (giveFam c 0 : sProp 𝕄) ⊢ iprop((∃ f, rPart c (· = 0) f) ∗ ∃ f, bPart c (· = 0) f) := by
    unfold giveFam
    iintro ⟨-, H2, H3⟩
    isplitl [H2]
    · iexact H2
    iexact H3
  have hall : iprop((bigSep Finset.univ fun j : Fin 32 => dutyTok ER (barCell (fwd c j)) 0 j)
        ∗ (bigSep Finset.univ fun j : Fin 32 => rPart c (· = (opp j).val) f) ∗ bigSep Finset.univ fun j : Fin 32 => bPart c (· = j.val) g)
      ⊢ (bigSep Finset.univ (giveFam c) : sProp 𝕄) := by
    rw [← bigSep_sep', ← bigSep_sep']; exact bigSep_mono fun j _ => hj j
  have he : (bigSep Finset.univ fun j : Fin 32 => rPart c (· = j.val) f : sProp 𝕄) = bigSep Finset.univ fun j : Fin 32 => rPart c (· = (opp j).val) f :=
    bigSep_univ_equiv oppEquiv (fun j : Fin 32 => rPart c (· = j.val) f)
  have hs : (bigSep Finset.univ (giveFam c) : sProp 𝕄) = iprop(giveFam c 0 ∗ bigSep (frm 1) (giveFam c)) := by
    rw [← frm_zero, frm_succ (by decide : 0 < 32)]; exact bigSep_insert (notMem_frm _)
  rw [rPart_blocks, bPart_blocks, he]
  iintro H
  ihave H := hall $$ H
  ihave H := (Entails.of_eq hs) $$ H
  icases H with ⟨H0, H⟩
  isplitl [H]; · iexact H
  iapply h0; iexact H0

/-- The launch state with its staged blocks is where the body begins. -/
theorem pre_start (c : Dev nD) :
    iprop(Φ₀ m c ∗ (∃ W, owes (c : Thread nD τ) (O₀ c) W) ∗ inputs m c ∗ ∃ f, ((c : Thread nD τ).loc cc0_stg5_0) ↦{fullShare} f)
      ⊢ (iprop(∃ K, Pre m K c 1) : sProp 𝕄) := by
  have hf : (payToks c : sProp 𝕄) = iprop((bigSep Finset.univ fun j : Fin 32 => dutyTok ER (barCell (fwd c j)) 0 j)
    ∗ (bigSep Finset.univ fun j : Fin 32 => dutyTok ER (xCell c 0 j) 0 0)
    ∗ (bigSep Finset.univ fun j : Fin 32 => dutyTok ER (xCell (fwd c j) 1 j) 0 0)
    ∗ (bigSep Finset.univ fun j : Fin 32 => dutyTok ER (xCell c 2 j) 0 0)
    ∗ (bigSep Finset.univ fun j : Fin 32 => dutyTok ER (xCell (bwd c j) 3 j) 0 0)) := rfl
  have ho : (bigSep Finset.univ (outFam₀ c) : sProp 𝕄) = iprop((bigSep Finset.univ fun j : Fin 32 => atPos ER (xCell c 0 j) 0 ∅ 0)
    ∗ (bigSep Finset.univ fun j : Fin 32 => dutyTok ER (xCell c 0 j) 0 0) ∗ (bigSep Finset.univ fun j : Fin 32 => dutyTok ER (xCell (fwd c j) 1 j) 0 0)) := by
    rw [← bigSep_sep', ← bigSep_sep']; rfl
  have hb : (bigSep Finset.univ (backFam₀ c) : sProp 𝕄) = iprop((bigSep Finset.univ fun j : Fin 32 => atPos ER (xCell c 2 j) 0 ∅ 0)
    ∗ (bigSep Finset.univ fun j : Fin 32 => dutyTok ER (xCell c 2 j) 0 0) ∗ (bigSep Finset.univ fun j : Fin 32 => dutyTok ER (xCell (bwd c j) 3 j) 0 0)) := by
    rw [← bigSep_sep', ← bigSep_sep']; rfl
  unfold Φ₀ start G' scratch
  rw [linear_split, hf]
  iintro ⟨⟨⟨⟨%K, HR, ⟨HpB, Hp0, Hp1, Hp2, Hp3⟩, HtB, Ht0, Ht1, Ht2, Ht3⟩, ⟨HcB, Hc1, Hc3⟩, HL⟩, ⟨%f0, H0⟩, ⟨%f1, H1⟩, ⟨%f2, H2⟩, ⟨%f3, H3⟩⟩, HO, HI, HP⟩
  iexists K
  unfold Pre
  rw [ho, hb, outP_0]
  ihave HG := (give_start c f1 f3) $$ [HtB H1 H3]
  · isplitl [HtB]; · iexact HtB
    isplitl [H1] <;> iassumption
  icases HG with ⟨HG, HG0⟩
  ihave Hr1 := (recvFam_start c 1 N₁ (credit_1)) $$ [Hp1 Hc1]
  · isplitl [Hp1] <;> iassumption
  ihave Hr3 := (recvFam_start c 3 N₂ (credit_3)) $$ [Hp3 Hc3]
  · isplitl [Hp3] <;> iassumption
  unfold O₀
  iframe HR HL HO HI HP HpB HcB HG HG0 Hp0 Ht0 Ht1 Hp2 Ht2 Ht3 Hr1 Hr3
  unfold sendP resP
  isplitl [H0]
  · iexists f0
    isplitr; · ipureintro; intro i hi; exact absurd hi (Nat.not_lt_zero _)
    rw [sPart_all c (0 ≤ ·) (fun _ _ => Nat.zero_le _)]; iexact H0
  · iexists f2
    isplitr; · ipureintro; intro i hi; exact absurd hi (Nat.not_lt_zero _)
    rw [ePart_all c (0 ≤ ·) (fun _ _ => Nat.zero_le _)]; iexact H2

/-- Where the body ends, everything is back. -/
theorem st_end (K : CellIx → ℕ) (c : Dev nD) : St m K c 32 32 32 32 32 32 32 32 2
    ⊢ (iprop(Φ₁ c ∗ (∃ W, owes (c : Thread nD τ) 0 W) ∗ inputs m c
        ∗ (((c : Thread nD τ).loc cc0_stg5_0) ↦{fullShare} (outAt m c : Buf (Elt F) ((c : Thread nD τ).loc cc0_stg5_0)))) : sProp 𝕄) := by
  have h0 : (bigSep Finset.univ (outFam m c 32 32) : sProp 𝕄) = iprop((bigSep Finset.univ fun j : Fin 32 => semVal (xCell c 0 j) 0)
      ∗ bigSep Finset.univ fun j : Fin 32 => sPart c (· = j.val) (sendAll m c)) := by
    rw [← bigSep_sep']; exact bigSep_congr fun j _ => if_pos j.isLt
  have h2 : (bigSep Finset.univ (backFam m c 32 32) : sProp 𝕄) = iprop((bigSep Finset.univ fun j : Fin 32 => semVal (xCell c 2 j) 0)
      ∗ bigSep Finset.univ fun j : Fin 32 => ePart c (· = j.val) (resAll m c)) := by
    rw [← bigSep_sep']; exact bigSep_congr fun j _ => if_pos j.isLt
  have h1 : ∀ k, (bigSep Finset.univ (recvFam c k 32) : sProp 𝕄) = bigSep Finset.univ fun j : Fin 32 => semVal (xCell c k j) 0 :=
    fun k => bigSep_congr fun j _ => if_pos j.isLt
  unfold St Φ₁ scratch
  rw [h0, h2, h1, h1, outP_2, owing_end, bigSep_univ_prod, bigSep_kinds]
  rw [rPart_all c (· < 32) (fun _ h => h), bPart_all c (· < 32) (fun _ h => h), ← sPart_blocks c (sendAll m c), ← ePart_blocks c (resAll m c)]
  iintro ⟨-, -, HO, HI, HP, HB, ⟨Hv0, H0⟩, ⟨Hv2, H2⟩, Hv1, Hv3, -, H1, -, H3⟩
  iframe HB Hv0 Hv1 Hv2 Hv3 HO HI HP
  isplitl [H0]; · iexists _; iexact H0
  isplitl [H1]; · iexists _; iexact H1
  isplitl [H2]; · iexists _; iexact H2
  iexists _; iexact H3

/-! ## The launch -/

variable (ρ : Dev nD → PrngReg)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => rwin m c
    | ⟨2, _⟩ => rtin m c
    | ⟨3, _⟩ => ewin m c
    | ⟨4, _⟩ => swin m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ c ∗ (dats m ρ 0 c).owesAt () t0_0.succ ∗ stg c cc0_stg0_0 (xin m c) ∗ stg c cc0_stg1_0 (rwin m c) ∗ stg c cc0_stg2_0 (rtin m c)
    ∗ stg c cc0_stg3_0 (ewin m c) ∗ stg c cc0_stg4_0 (swin m c) ∗ stg c cc0_stg5_0 (outAt m c))

theorem body_start (c : Dev nD) : bodyPre m ρ c ⊢ (iprop(∃ K, Pre m K c 1) : sProp 𝕄) := by
  unfold bodyPre
  iintro ⟨HΦ, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = xin m c := by rw [h0]; unfold Dat.before; rw [if_pos (fetch0_0 t0_0)]; rfl
  have e1 : g1 = rwin m c := by rw [h1]; unfold Dat.before; rw [if_pos (fetch0_1 t0_0)]; rfl
  have e2 : g2 = rtin m c := by rw [h2]; unfold Dat.before; rw [if_pos (fetch0_2 t0_0)]; rfl
  have e3 : g3 = ewin m c := by rw [h3]; unfold Dat.before; rw [if_pos (fetch0_3 t0_0)]; rfl
  have e4 : g4 = swin m c := by rw [h4]; unfold Dat.before; rw [if_pos (fetch0_4 t0_0)]; rfl
  subst e0; subst e1; subst e2; subst e3; subst e4
  unfold Dat.owesAt Pipeline.owesWithin
  icases Ho with ⟨%W, %hW, HO⟩
  rw [show (dats m ρ 0 c).owed t0_0.castSucc = O₀ c from rfl]
  iapply (pre_start m c)
  unfold inputs
  iframe HΦ H0 H1 H2 H3 H4
  isplitl [HO]; · iexists W; iexact HO
  iexists g5; iexact H5

theorem body_end (K : CellIx → ℕ) (c : Dev nD) : St m K c 32 32 32 32 32 32 32 32 2 ⊢ bodyPost m ρ c := by
  refine (st_end m K c).trans ?_
  unfold bodyPost inputs Dat.owesAt Pipeline.owesWithin
  rw [show (dats m ρ 0 c).owed t0_0.succ = 0 from rfl]
  iintro ⟨HΦ, ⟨%W, HO⟩, ⟨H0, H1, H2, H3, H4⟩, H5⟩
  isplitl [HΦ]; · iexact HΦ
  isplitl [HO]
  · iexists W; isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ run c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) (fun _ => bodyPost m ρ c)
  refine (body_start m ρ c).trans ?_
  iintro ⟨%K, H⟩
  iapply (body_run m K c (Q := fun _ => bodyPost m ρ c) (body_end m ρ K c))
  iexact H

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro H; iexact H

/-- The pipeline's own semaphores lie below every cell owed to. -/
theorem stage_wait (c : Dev nD) (q : DmaSem sig) (hq : q.val < 6) (O : CellTallies nD τ sig Unit) (hO : O = owing c 1 0 0 ∨ O = owing c 32 32 32) :
    (levAts L lv : sProp 𝕄) ⊢ MayWait (c : Thread nD τ) (.dma q) () O := by
  have hlow : lv ((c : Thread nD τ), .dma q) () ≤ 0 := by dsimp only [lv]; rw [if_neg (by omega)]
  rcases hO with rfl | rfl <;>
    exact mayWait c (.dma q) 0 _ _ _ hlow (.inr (by decide)) (.inr (by decide)) (.inr (by decide))

theorem waits (c : Dev nD) : (levAts L lv : sProp 𝕄) ⊢ Pipeline.cellsWaits cfgs (dats m ρ) () 0 c :=
  Pipeline.cellsWaits_intro cfgs (dats m ρ) () 0 c fun w s t =>
    stage_wait c _ (by fin_cases w <;> fin_cases s <;> decide) _ (by
      rcases t with ⟨_ | _, ht⟩
      · exact Or.inl rfl
      · exact Or.inr (owing_end c).symm)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with its counters at zero the mesh runs to its end: every device's arrays hold what the run
    computes, and every counter is at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument array after the run holds what it held. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.KernelIdeal.Moe

end

end
-- ==== Proof.Frames.lean ====
module

public import proofs.«01_k».proof.Defs
public import proofs.«01_k».proof.Proof.Kernel.Launch
public import proofs.«01_k».proof.Proof.KernelIdeal.Launch
public import proofs.«01_k».proof.Proof.Gen.ReferenceIdeal.Run

/-!
# The frames

Each program runs to its end, leaves its arguments as they were and every counter at zero.
-/
@[expose] public section

noncomputable section

namespace Cert.Proof

open Idealize.ShloMosaic Idealize.ShloMosaic.TcCoe Idealize.SL.Sem

/-- The kernel as printed: its arguments are kept and its counters end at zero. -/
theorem frame_kernel : Cert.quiescent_Kernel := fun m ρ _ =>
  (θ_run Cert.Kernel.defs _ _).mono (fun _ h => ⟨fun c =>
      ⟨(h.1 c (0 : Fin 6)).trans (Cert.Kernel.Moe.finalA_in m ρ c 0 rfl), (h.1 c (1 : Fin 6)).trans (Cert.Kernel.Moe.finalA_in m ρ c 1 rfl),
        (h.1 c (2 : Fin 6)).trans (Cert.Kernel.Moe.finalA_in m ρ c 2 rfl), (h.1 c (3 : Fin 6)).trans (Cert.Kernel.Moe.finalA_in m ρ c 3 rfl),
        (h.1 c (4 : Fin 6)).trans (Cert.Kernel.Moe.finalA_in m ρ c 4 rfl)⟩, h.2⟩)
    (Cert.Kernel.Moe.run_main (F := Bits) m ρ)

/-- The kernel read in exact arithmetic: its arguments are kept and its counters end at zero. -/
theorem frame_kernelIdeal : Cert.quiescent_KernelIdeal := fun m ρ _ =>
  (θ_run Cert.KernelIdeal.defs _ _).mono (fun _ h => ⟨fun c =>
      ⟨(h.1 c (0 : Fin 6)).trans (Cert.KernelIdeal.Moe.finalA_in m ρ c 0 rfl), (h.1 c (1 : Fin 6)).trans (Cert.KernelIdeal.Moe.finalA_in m ρ c 1 rfl),
        (h.1 c (2 : Fin 6)).trans (Cert.KernelIdeal.Moe.finalA_in m ρ c 2 rfl), (h.1 c (3 : Fin 6)).trans (Cert.KernelIdeal.Moe.finalA_in m ρ c 3 rfl),
        (h.1 c (4 : Fin 6)).trans (Cert.KernelIdeal.Moe.finalA_in m ρ c 4 rfl)⟩, h.2⟩)
    (Cert.KernelIdeal.Moe.run_main (F := Ideal) m ρ)

/-- The reference: it keeps its arguments, and declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation of the kernel was rewritten. -/
theorem preserves : Cert.preserves_Kernel_KernelIdeal := trivial

end Cert.Proof

end

end
-- ==== Proof.Value.Words.lean ====
module
public import proofs.«01_k».proof.Proof.KernelIdeal.Contents
public import Idealize.ShloMosaic.Lib.Pointwise
public import Idealize.ShloMosaic.Lib.StableHlo.Predicate
public import Idealize.ShloMosaic.Lib.Pipeline.Value

/-!
# The routing arithmetic on one word

An expert's number is a word below 128: its quotient by 4 names the device, its remainder the expert there.
-/

@[expose] public section

noncomputable section

namespace Cert.KernelIdeal.Moe

open Idealize.ShloMosaic Idealize.ShloMosaic.StableHlo.Predicate

/-- The floored quotient by 4 as the kernel computes it, of a word below 128. -/
theorem floorQuo_word : ∀ n : Fin 128,
    Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 4#32 0#32))
            (Scalar.extui (Scalar.cmpi CmpIPredicate.slt 4#32 0#32))))
        (IntOp.cmpi CmpIPredicate.ne (IntOp.remsi ArithUnit.vector (BitVec.ofNat 32 n.val) 4#32) 0#32))
      (IntOp.subi (IntOp.divsi ArithUnit.vector (BitVec.ofNat 32 n.val) 4#32) 1#32)
      (IntOp.divsi ArithUnit.vector (BitVec.ofNat 32 n.val) 4#32) = BitVec.ofNat 32 (n.val / 4) := by
  decide

/-- The floored remainder by 4 as the kernel computes it, of a word below 128. -/
theorem floorRem_word : ∀ n : Fin 128,
    Scalar.select
        (IntOp.andi
          (IntOp.xori
            (IntOp.cmpi CmpIPredicate.slt
              (IntOp.remsi ArithUnit.vector (BitVec.ofNat 32 n.val)
                (Scalar.select (Scalar.cmpi CmpIPredicate.eq 4#32 0#32) 1#32 4#32))
              0#32)
            (Scalar.cmpi CmpIPredicate.slt (Scalar.select (Scalar.cmpi CmpIPredicate.eq 4#32 0#32) 1#32 4#32) 0#32))
          (IntOp.cmpi CmpIPredicate.ne
            (IntOp.remsi ArithUnit.vector (BitVec.ofNat 32 n.val)
              (Scalar.select (Scalar.cmpi CmpIPredicate.eq 4#32 0#32) 1#32 4#32))
            0#32))
        (IntOp.addi
          (IntOp.remsi ArithUnit.vector (BitVec.ofNat 32 n.val)
            (Scalar.select (Scalar.cmpi CmpIPredicate.eq 4#32 0#32) 1#32 4#32))
          (Scalar.select (Scalar.cmpi CmpIPredicate.eq 4#32 0#32) 1#32 4#32))
        (IntOp.remsi ArithUnit.vector (BitVec.ofNat 32 n.val)
          (Scalar.select (Scalar.cmpi CmpIPredicate.eq 4#32 0#32) 1#32 4#32)) = BitVec.ofNat 32 (n.val % 4) := by
  decide

/-- The kernel's name for device `c` is `c`. -/
theorem myId_word : ∀ c : Dev nD, myId c = BitVec.ofNat 32 c.val := by
  unfold myId Dev.word; decide

/-- The distance from device `c` to device `d` around the ring. -/
theorem dist_word : ∀ d c : Fin 32,
    IntOp.remsi ArithUnit.vector (IntOp.addi (IntOp.subi (BitVec.ofNat 32 d.val) (BitVec.ofNat 32 c.val)) 32#32) 32#32
      = BitVec.ofNat 32 ((d.val + 32 - c.val) % 32) := by
  intro d c
  have e : IntOp.addi (IntOp.subi (BitVec.ofNat 32 d.val) (BitVec.ofNat 32 c.val)) 32#32 = BitVec.ofNat 32 (d.val + 32 - c.val) := by
    apply BitVec.eq_of_toNat_eq
    have := d.isLt; have := c.isLt
    simp only [IntOp.addi, IntOp.subi, BitVec.toNat_add, BitVec.toNat_sub, BitVec.toNat_ofNat]
    omega
  rw [e]
  have h : ∀ n : Fin 64, IntOp.remsi ArithUnit.vector (BitVec.ofNat 32 n.val) 32#32 = BitVec.ofNat 32 (n.val % 32) := by decide
  exact h ⟨d.val + 32 - c.val, by have := d.isLt; omega⟩

/-- A place in the send buffer: block number times 64, plus a position below 64. -/
theorem place_word (j p : ℕ) (hj : j < 32) (hp : p < 64) :
    IntOp.addi (IntOp.muli (BitVec.ofNat 32 j) 64#32) (IntOp.minsi (BitVec.ofNat 32 p) 63#32) = BitVec.ofNat 32 (j * 64 + p) := by
  have h : IntOp.minsi (BitVec.ofNat 32 p) 63#32 = BitVec.ofNat 32 p := by
    have h' : ∀ n : Fin 64, IntOp.minsi (BitVec.ofNat 32 n.val) 63#32 = BitVec.ofNat 32 n.val := by decide
    exact h' ⟨p, hp⟩
  rw [h]
  apply BitVec.eq_of_toNat_eq
  simp only [IntOp.addi, IntOp.muli, BitVec.toNat_add, BitVec.toNat_mul, BitVec.toNat_ofNat]
  omega

/-- Words of small naturals are equal only when the naturals are. -/
theorem ofNat_inj {a b : ℕ} (ha : a < 2 ^ 32) (hb : b < 2 ^ 32) : BitVec.ofNat 32 a = BitVec.ofNat 32 b ↔ a = b := by
  constructor
  · intro h
    have := congrArg BitVec.toNat h
    simp only [BitVec.toNat_ofNat] at this
    omega
  · rintro rfl; rfl

/-- A word is the word of its value. -/
theorem word_eta (w : BitVec 32) : w = BitVec.ofNat 32 w.toNat := by simp

/-- A sum of one-bit words counts those that are set. -/
theorem count_word (P : Fin 1024 → Prop) [DecidablePred P] (b : Fin 1024 → BitVec 1) (hb : ∀ t, b t = 1#1 ↔ P t) :
    (Finset.univ : Finset (Fin 1024)).fold IntOp.addi (0#32) (fun t => BitVec.setWidth 32 (b t))
      = BitVec.ofNat 32 (Finset.univ.filter P).card := by
  have e : ∀ t, (BitVec.setWidth 32 (b t)).toNat = if P t then 1 else 0 := fun t => by
    rw [toNat_setWidth_bit]; simp only [hb]
  have hs : ∑ t : Fin 1024, (BitVec.setWidth 32 (b t)).toNat = (Finset.univ.filter P).card := by
    simp only [e, Finset.sum_boole, Nat.cast_id]
  have hc : (Finset.univ.filter P).card ≤ 1024 := (Finset.card_le_univ _).trans (by simp)
  apply BitVec.eq_of_toNat_eq
  rw [toNat_fold_addi _ _ (by rw [hs]; omega), hs, BitVec.toNat_ofNat]
  omega

/-- A conjunction of one-bit words is true when both are. -/
theorem and_iff (a b : BitVec 1) : IntOp.andi a b = 1#1 ↔ a = 1#1 ∧ b = 1#1 := by
  revert a b; decide

end Cert.KernelIdeal.Moe

end
-- ==== Proof.Value.Slots.lean ====
module
public import proofs.«01_k».proof.Proof.Value.Words

/-!
# Where a token goes

Token `i` of a device goes to the owner of its expert, at a position counting the earlier tokens with the same
destination. Its slot is one number from the ring distance and the position, and no two tokens share one.
-/

@[expose] public section

noncomputable section

namespace Cert.KernelIdeal.Moe

open Cert.KernelIdeal Cert.KernelIdeal.Gen
open Idealize.ShloMosaic Idealize.ShloMosaic.TcCoe Idealize.ShloMosaic.StableHlo.Predicate

/-! ## The numbers -/

section Spec

variable (rt : Vec Ideal S1024x1 .i32) (c : Fin 32)

/-- The expert's number of token `i`. -/
def expertOf (i : Fin 1024) : ℕ := BitVec.toNat (w := 32) (rt (ix2 i 0))
/-- The device that owns the expert. -/
def ownerOf (i : Fin 1024) : ℕ := expertOf rt i / 4
/-- How many earlier tokens go to the same device. -/
def posOf (i : Fin 1024) : ℕ := (Finset.univ.filter fun t : Fin 1024 => ownerOf rt i = ownerOf rt t ∧ t.val < i.val).card
/-- The distance from device `c` to the owner. -/
def ringDist (i : Fin 1024) : ℕ := (ownerOf rt i + 32 - c.val) % 32
/-- The token's slot. -/
def slotOf (i : Fin 1024) : ℕ := ringDist rt c i * 64 + posOf rt i

/-- Every token names an expert, and no device gets more than 64 tokens. -/
structure Routed : Prop where
  expert_lt : ∀ i, expertOf rt i < 128
  load_le : ∀ d : Fin 32, (Finset.univ.filter fun t : Fin 1024 => ownerOf rt t = d.val).card ≤ 64

variable {rt}

/-- The owner is one of the 32 devices. -/
theorem Routed.owner_lt (h : Routed rt) (i : Fin 1024) : ownerOf rt i < 32 := by
  have := h.expert_lt i; unfold ownerOf; omega

/-- A ring distance is below 32. -/
theorem ringDist_lt (i : Fin 1024) : ringDist rt c i < 32 := Nat.mod_lt _ (by decide)

/-- A token's position is below 64: the token itself is among those its device gets. -/
theorem Routed.pos_lt (h : Routed rt) (i : Fin 1024) : posOf rt i < 64 := by
  refine lt_of_lt_of_le (Finset.card_lt_card ?_) (h.load_le ⟨ownerOf rt i, h.owner_lt i⟩)
  refine (Finset.ssubset_iff_of_subset fun t ht => ?_).2 ⟨i, ?_, ?_⟩
  · simp only [Finset.mem_filter, Finset.mem_univ, true_and] at ht ⊢; exact ht.1.symm
  · simp
  · simp

/-- Two tokens for one device have different positions. -/
theorem posOf_lt_of_lt {t i : Fin 1024} (ho : ownerOf rt t = ownerOf rt i) (hlt : t.val < i.val) : posOf rt t < posOf rt i := by
  refine Finset.card_lt_card ((Finset.ssubset_iff_of_subset fun u hu => ?_).2 ⟨t, ?_, ?_⟩)
  · simp only [Finset.mem_filter, Finset.mem_univ, true_and] at hu ⊢
    exact ⟨ho.symm.trans hu.1, hu.2.trans hlt⟩
  · simp only [Finset.mem_filter, Finset.mem_univ, true_and]; exact ⟨ho.symm, hlt⟩
  · simp

/-- No two tokens of a device share a slot. -/
theorem Routed.slot_inj (h : Routed rt) {t i : Fin 1024} (e : slotOf rt c t = slotOf rt c i) : t = i := by
  have ht := h.pos_lt t; have hi := h.pos_lt i
  have ot := h.owner_lt t; have oi := h.owner_lt i
  have hc := c.isLt
  unfold slotOf ringDist at e
  have ho : ownerOf rt t = ownerOf rt i := by omega
  have hp : posOf rt t = posOf rt i := by omega
  rcases lt_trichotomy t.val i.val with hl | hl | hl
  · have := posOf_lt_of_lt ho hl; omega
  · exact Fin.ext hl
  · have := posOf_lt_of_lt ho.symm hl; omega

/-- A slot is one of the 2048. -/
theorem Routed.slot_lt (h : Routed rt) (i : Fin 1024) : slotOf rt c i < 2048 := by
  have := h.pos_lt i; have := ringDist_lt (rt := rt) c i; unfold slotOf; omega

end Spec

/-! ## The words the kernel computes -/

section WordsOf

variable {rt : Vec Ideal S1024x1 .i32} (h : Routed rt) (i : Fin 1024)

variable (rt) in
/-- The word a token's route holds. -/
theorem word_expert : rt (ix2 i 0) = BitVec.ofNat 32 (expertOf rt i) := word_eta _

include h

/-- The column of destinations. -/
theorem dst_apply : k0_pay5 (k0_pay2 (F := Ideal) rt) 4#32 (ix2 i 0) = BitVec.ofNat 32 (ownerOf rt i) := by
  pointwise [k0_pay5, k0_pay2]
  rw [word_expert rt i]
  exact floorQuo_word ⟨expertOf rt i, h.expert_lt i⟩

/-- The row of destinations. -/
theorem dstRow_apply : k0_pay9 (k0_pay6 (k0_pay3 (F := Ideal) rt)) (k0_pay7 (k0_pay3 (F := Ideal) rt))
    (k0_pay8 (k0_pay3 (F := Ideal) rt)) (ix2 0 i) = BitVec.ofNat 32 (ownerOf rt i) := by
  pointwise [k0_pay6, k0_pay7, k0_pay8, k0_pay9, k0_pay3, k0_pay2]
  rw [word_expert rt i]
  exact floorQuo_word ⟨expertOf rt i, h.expert_lt i⟩

/-- The expert's number on its device. -/
theorem eloc_apply : k0_pay11 (F := Ideal) (k0_pay2 (F := Ideal) rt) (ix2 i 0) = (((expertOf rt i % 4 : ℕ) : ℝ) : EReal) := by
  pointwise [k0_pay11, k0_pay2]
  rw [word_expert rt i, floorRem_word ⟨expertOf rt i, h.expert_lt i⟩]
  show (((BitVec.ofNat 32 (expertOf rt i % 4)).toInt : ℝ) : EReal) = _
  rw [toInt_ofNat_small _ (by omega), Int.cast_natCast]

/-- The column of positions. -/
theorem posCol_apply : k0_pay13 (k0_pay5 (k0_pay2 (F := Ideal) rt) 4#32) (k0_pay6 (k0_pay3 (F := Ideal) rt))
    (k0_pay7 (k0_pay3 (F := Ideal) rt)) (k0_pay8 (k0_pay3 (F := Ideal) rt)) (ix2 i 0) = BitVec.ofNat 32 (posOf rt i) := by
  pointwise [k0_pay13, k0_pay12]
  refine count_word (fun t => ownerOf rt i = ownerOf rt t ∧ t.val < i.val) _ fun t => ?_
  rw [and_iff, cmpi_eq_iff, dst_apply h, dstRow_apply h, slt_iff_toNat (by simp; omega) (by simp; omega),
    ofNat_inj (by have := h.owner_lt i; omega) (by have := h.owner_lt t; omega)]
  simp only [BitVec.toNat_ofNat]
  have := t.isLt; have := i.isLt
  rw [Nat.mod_eq_of_lt (by omega), Nat.mod_eq_of_lt (by omega)]

/-- The row of positions. -/
theorem posRow_apply : k0_pay14 (k0_pay5 (k0_pay2 (F := Ideal) rt) 4#32) (k0_pay6 (k0_pay3 (F := Ideal) rt))
    (k0_pay7 (k0_pay3 (F := Ideal) rt)) (k0_pay8 (k0_pay3 (F := Ideal) rt)) (ix2 0 i) = BitVec.ofNat 32 (posOf rt i) := by
  pointwise [k0_pay14, k0_pay12]
  refine count_word (fun t => ownerOf rt i = ownerOf rt t ∧ t.val < i.val) _ fun t => ?_
  rw [and_iff, cmpi_eq_iff, dst_apply h, dstRow_apply h, slt_iff_toNat (by simp; omega) (by simp; omega),
    ofNat_inj (by have := h.owner_lt t; omega) (by have := h.owner_lt i; omega)]
  simp only [BitVec.toNat_ofNat]
  have := t.isLt; have := i.isLt
  rw [Nat.mod_eq_of_lt (by omega), Nat.mod_eq_of_lt (by omega), eq_comm]

end WordsOf

section OnDevice

variable {m : (ℓ : Loc nD τ sig) → Buf (Elt Ideal) ℓ} {c : Dev nD} (h : Routed (rtin m c)) (i : Fin 1024)
include h

/-- The column of slots. -/
theorem slotCol_apply : slotCol m c (ix2 i 0) = BitVec.ofNat 32 (slotOf (rtin m c) c i) := by
  unfold slotCol posCol dstCol quoRow adjRow decRow
  pointwise [k0_pay16, k0_pay15]
  rw [posCol_apply h, dst_apply h, myId_word, dist_word ⟨_, h.owner_lt i⟩ c, place_word _ _ (Nat.mod_lt _ (by decide)) (h.pos_lt i)]
  rfl

/-- The row of slots, from its two parts. -/
theorem place_apply : IntOp.addi (IntOp.muli (distRow m c (ix2 0 i)) 64#32) (IntOp.minsi (posRow m c (ix2 0 i)) 63#32)
    = BitVec.ofNat 32 (slotOf (rtin m c) c i) := by
  have e : distRow m c (ix2 0 i) = BitVec.ofNat 32 (ringDist (rtin m c) c i) := by
    unfold distRow quoRow adjRow decRow
    pointwise [k0_pay10]
    rw [dstRow_apply h, myId_word, dist_word ⟨_, h.owner_lt i⟩ c]; rfl
  have e' : posRow m c (ix2 0 i) = BitVec.ofNat 32 (posOf (rtin m c) i) := by
    unfold posRow dstCol quoRow adjRow decRow
    exact posRow_apply h i
  rw [e, e', place_word _ _ (ringDist_lt _ _) (h.pos_lt i)]
  rfl

/-- The row of slots. -/
theorem slotRow_apply : slotRow m c (ix2 0 i) = BitVec.ofNat 32 (slotOf (rtin m c) c i) := by
  unfold slotRow
  pointwise [k0_pay17]
  exact place_apply h i

end OnDevice

end Cert.KernelIdeal.Moe

end
-- ==== Proof.Value.Send.lean ====
module
public import proofs.«01_k».proof.Proof.Value.Slots

/-!
# What a token's slot of the send buffer holds

The send buffer is a product with a matrix of zeros and ones that has one 1 per token, in the row of the token's slot.
-/

@[expose] public section

noncomputable section

namespace Cert.KernelIdeal.Moe

open Cert.KernelIdeal Cert.KernelIdeal.Gen
open Idealize.ShloMosaic Idealize.ShloMosaic.TcCoe Idealize.ShloMosaic.StableHlo.Predicate

/-- A comparison's bit as a float is 1 or 0. -/
theorem onehot_apply (φ : FTy) (a b : BitVec 32) :
    (FloatOps.sitofp φ (BitVec.setWidth 32 (IntOp.cmpi CmpIPredicate.eq a b)) : Ideal φ) = if a = b then (1 : EReal) else 0 := by
  show ((((BitVec.setWidth 32 (IntOp.cmpi CmpIPredicate.eq a b)).toInt : ℤ) : ℝ) : EReal) = _
  by_cases h : a = b
  · rw [if_pos h, cmpi_eq_iff.2 h]; simp
  · rw [if_neg h, ValueIdx.eq_zero_of_ne_one (fun e => h (cmpi_eq_iff.1 e))]; simp

/-- A sum against a row of zeros with a single one picks that entry. -/
theorem sum_onehot {n : ℕ} (P : Fin n → Prop) [DecidablePred P] (f : Fin n → EReal) (i : Fin n) (hi : P i) (hu : ∀ t, P t → t = i) :
    ∑ t, (if P t then (1 : EReal) else 0) * f t = f i := by
  rw [Finset.sum_eq_single i]
  · rw [if_pos hi, one_mul]
  · intro t _ ht
    rw [if_neg fun h => ht (hu t h), zero_mul]
  · intro h; exact absurd (Finset.mem_univ i) h

section OnDevice

variable {m : (ℓ : Loc nD τ sig) → Buf (Elt Ideal) ℓ} {c : Dev nD}

/-- What token `i` sends: its gated row, then its expert's number. -/
def payload (m : (ℓ : Loc nD τ sig) → Buf (Elt Ideal) ℓ) (c : Dev nD) (i : Fin 1024) (q : Fin 640) : EReal :=
  if h : q.val < 512 then gated m c (ix2 i ⟨q.val, h⟩) else elocCol m c (ix2 i 0)

/-- The payload the kernel builds, at an index. -/
theorem payRows_apply (i : Fin 1024) (q : Fin 640) : payRows m c (ix2 i q) = payload m c i q := by
  unfold payRows payload
  pointwise [k0_pay18]

/-- One group of eight send blocks, at an index: the sum of the payloads of the tokens with that slot. -/
theorem sendGroup_apply (h : Routed (rtin m c)) (g : ℕ) (hg : g < 4) (j : Fin 8) (s : Fin 64) (q : Fin 640) :
    sendGroup m c g (ix3 j s q)
      = ∑ t : Fin 1024, (if (8 * g + j.val) * 64 + s.val = slotOf (rtin m c) c t then (1 : EReal) else 0) * payload m c t q := by
  have hw : ∀ (o t : ℕ), o < 2048 → t < 2048 → ∀ u : ℕ, u = o →
      ((if BitVec.ofNat 32 o = BitVec.ofNat 32 t then (1 : EReal) else 0) = if u = t then 1 else 0) := by
    rintro o t ho ht u rfl
    simp only [ofNat_inj (show u < 2 ^ 32 by omega) (show t < 2 ^ 32 by omega)]
  have ha : ∀ a b : ℕ, IntOp.addi (BitVec.ofNat 32 a) (BitVec.ofNat 32 b) = BitVec.ofNat 32 (a + b) := fun a b => by
    apply BitVec.eq_of_toNat_eq; simp [IntOp.addi]
  have hj := j.isLt; have hs := s.isLt
  match g, hg with
  | 0, _ =>
    unfold sendGroup
    pointwise [k0_pay19, k0_pay17, dot_S512x1024_S1024x640_S512x640_1_0_0_1_n_n]
    refine Finset.sum_congr rfl fun t _ => ?_
    rw [onehot_apply, place_apply h, ha]
    exact congrArg₂ (fun a b : EReal => a * b) (hw _ _ (by omega) (h.slot_lt c t) _ (by omega)) (payRows_apply t q)
  | 1, _ =>
    unfold sendGroup
    pointwise [k0_pay21, k0_pay20, dot_S512x1024_S1024x640_S512x640_1_0_0_1_n_n]
    refine Finset.sum_congr rfl fun t _ => ?_
    rw [onehot_apply, slotRow_apply h, ha]
    exact congrArg₂ (fun a b : EReal => a * b) (hw _ _ (by omega) (h.slot_lt c t) _ (by omega)) (payRows_apply t q)
  | 2, _ =>
    unfold sendGroup
    pointwise [k0_pay22, dot_S512x1024_S1024x640_S512x640_1_0_0_1_n_n]
    refine Finset.sum_congr rfl fun t _ => ?_
    rw [onehot_apply, slotRow_apply h, ha]
    exact congrArg₂ (fun a b : EReal => a * b) (hw _ _ (by omega) (h.slot_lt c t) _ (by omega)) (payRows_apply t q)
  | 3, _ =>
    unfold sendGroup
    pointwise [k0_pay23, dot_S512x1024_S1024x640_S512x640_1_0_0_1_n_n]
    refine Finset.sum_congr rfl fun t _ => ?_
    rw [onehot_apply, slotRow_apply h, ha]
    exact congrArg₂ (fun a b : EReal => a * b) (hw _ _ (by omega) (h.slot_lt c t) _ (by omega)) (payRows_apply t q)

/-- A token's slot of the send buffer holds what the token sends. -/
theorem sendAll_apply (h : Routed (rtin m c)) (i : Fin 1024) (j : Fin 32) (s : Fin 64) (q : Fin 640)
    (hj : j.val = ringDist (rtin m c) c i) (hs : s.val = posOf (rtin m c) i) :
    sendAll m c (ix3 j s q) = payload m c i q := by
  have hjl := j.isLt
  have e : sendAll m c (ix3 j s q) = sendGroup m c (j.val / 8) (ix3 ⟨j.val % 8, Nat.mod_lt _ (by decide)⟩ s q) :=
    congrArg (sendGroup m c (j.val / 8)) (funext fun a => by fin_cases a <;> rfl)
  rw [e, sendGroup_apply h _ (by omega)]
  have hk : (8 * (j.val / 8) + j.val % 8) * 64 + s.val = slotOf (rtin m c) c i := by
    unfold slotOf; omega
  refine sum_onehot _ _ i hk fun t ht => ?_
  exact h.slot_inj c (ht.symm.trans hk)

end OnDevice

end Cert.KernelIdeal.Moe

end
-- ==== Proof.Value.Experts.lean ====
module
public import proofs.«01_k».proof.Proof.Value.Send

/-!
# What the owner makes of a received row

A received row carries its expert's number; of the four products only the one with that expert's weights is not zero.
-/

@[expose] public section

noncomputable section

namespace Cert.KernelIdeal.Moe

open Cert.KernelIdeal Cert.KernelIdeal.Gen
open Idealize.ShloMosaic Idealize.ShloMosaic.TcCoe Idealize.ShloMosaic.StableHlo.Predicate

/-- The two expert numbers past one, as the kernel spells them. -/
theorem ofBits_two_bf16 : Ideal.ofBits .bf16 0x4000#16 = (((2 : ℕ) : ℝ) : EReal) := by
  simp [Ideal.ofBits, Ideal.ieee, -EReal.coe_mul]; norm_num

/-- The literal three. -/
theorem ofBits_three_bf16 : Ideal.ofBits .bf16 0x4040#16 = (((3 : ℕ) : ℝ) : EReal) := by
  simp [Ideal.ofBits, Ideal.ieee, -EReal.coe_mul]; norm_num

/-- The four masked products, with the row's own expert named `k`. -/
theorem pick_expert (x : Fin 512 → EReal) (w : Fin 4 → Fin 512 → EReal) (r : EReal) (k : ℕ) (hk : k < 4) (hr : r = ((k : ℝ) : EReal)) :
    ∑ d, (if r = 0 then x d else 0) * w 0 d + ∑ d, (if r = 1 then x d else 0) * w 1 d
      + ∑ d, (if r = Ideal.ofBits .bf16 0x4000#16 then x d else 0) * w 2 d
      + ∑ d, (if r = Ideal.ofBits .bf16 0x4040#16 then x d else 0) * w 3 d = ∑ d, x d * w ⟨k, hk⟩ d := by
  have e0 : (r = 0) ↔ k = 0 := by rw [hr]; norm_cast
  have e1 : (r = 1) ↔ k = 1 := by rw [hr]; norm_cast
  have e2 : (r = Ideal.ofBits .bf16 0x4000#16) ↔ k = 2 := by rw [hr, ofBits_two_bf16]; norm_cast
  have e3 : (r = Ideal.ofBits .bf16 0x4040#16) ↔ k = 3 := by rw [hr, ofBits_three_bf16]; norm_cast
  simp only [e0, e1, e2, e3]
  clear e0 e1 e2 e3 hr
  interval_cases k <;> simp

section OnDevice

/-- Column `q` of row `s` of received block `j`. -/
def recvAt (m : (ℓ : Loc nD τ sig) → Buf (Elt Ideal) ℓ) (c : Dev nD) (j : Fin 32) (s : Fin 64) (q : Fin 640) : EReal := recvAll m c (ix3 j s q)
/-- Weight `(d, h)` of the device's expert `k`. -/
def weightAt (m : (ℓ : Loc nD τ sig) → Buf (Elt Ideal) ℓ) (c : Dev nD) (k : Fin 4) (d : Fin 512) (h : Fin 1024) : EReal := ewin m c (ix3 k d h)

variable {m : (ℓ : Loc nD τ sig) → Buf (Elt Ideal) ℓ} {c : Dev nD}

/-- A load of eight received blocks, at an index. -/
theorem recvGroup_apply (g : ℕ) (hg : g ≤ 24) (j : Fin 8) (s : Fin 64) (q : Fin 640) :
    recvGroup m c g hg (ix3 j s q) = recvAt m c ⟨g + j.val, by omega⟩ s q := by
  unfold recvGroup
  refine congrArg (recvAll m c) (funext fun a => ?_)
  fin_cases a <;> apply Fin.ext <;> simp

/-- A load of one expert's weights, at an index. -/
theorem expW_apply (k : ℕ) (hk : k < 4) (d : Fin 512) (h : Fin 1024) :
    expW m c k hk (ix3 0 d h) = weightAt m c ⟨k, hk⟩ d h := by
  unfold expW
  refine congrArg (ewin m c) (funext fun a => ?_)
  fin_cases a <;> apply Fin.ext <;> simp

/-- A row of the result buffer whose received row carries expert `k`. -/
theorem resGroup_apply (g : ℕ) (hg : g < 4) (j : Fin 8) (s : Fin 64) (h : Fin 1024) (k : ℕ) (hk : k < 4)
    (hr : recvAt m c ⟨8 * g + j.val, by omega⟩ s 512 = ((k : ℝ) : EReal)) :
    resGroup m c g (ix3 j s h)
      = ∑ d : Fin 512, recvAt m c ⟨8 * g + j.val, by omega⟩ s ⟨d.val, by omega⟩ * weightAt m c ⟨k, hk⟩ d h := by
  have key := pick_expert (fun d => recvAt m c ⟨8 * g + j.val, by omega⟩ s ⟨d.val, by omega⟩)
    (fun k d => weightAt m c k d h) _ k hk hr
  refine Eq.trans ?_ key
  match g, hg with
  | 0, _ =>
    unfold resGroup
    pointwise [applyExperts0, k0_pay30, k0_pay29, k0_pay28, k0_pay27, k0_pay26, k0_pay25, dot_S512x512_S512x1024_S512x1024_1_0_0_1_n_n]
    simp only [recvGroup_apply, expW_apply, Nat.zero_add]
    rfl
  | 1, _ =>
    unfold resGroup
    pointwise [applyExperts1, k0_pay31, k0_pay32, k0_pay33, k0_pay34, k0_pay35, dot_S512x512_S512x1024_S512x1024_1_0_0_1_n_n]
    simp only [recvGroup_apply, expW_apply]
    rfl
  | 2, _ =>
    unfold resGroup
    pointwise [applyExperts2, k0_pay36, k0_pay37, k0_pay38, k0_pay39, dot_S512x512_S512x1024_S512x1024_1_0_0_1_n_n]
    simp only [recvGroup_apply, expW_apply]
    rfl
  | 3, _ =>
    unfold resGroup
    pointwise [applyExperts3, k0_pay40, k0_pay41, k0_pay42, k0_pay43, k0_pay44, k0_pay45, dot_S512x512_S512x1024_S512x1024_1_0_0_1_n_n]
    simp only [recvGroup_apply, expW_apply]
    rfl

end OnDevice

end Cert.KernelIdeal.Moe

end
-- ==== Proof.Value.Out.lean ====
module
public import proofs.«01_k».proof.Proof.Value.Experts

/-!
# The kernel's result at a token

Following a token's slot to the owner and back gives the owner's product of the token's gated row.
-/

@[expose] public section

noncomputable section

namespace Cert.KernelIdeal.Moe

open Cert.KernelIdeal Cert.KernelIdeal.Gen
open Idealize.ShloMosaic Idealize.ShloMosaic.TcCoe Idealize.ShloMosaic.StableHlo.Predicate

variable {m : (ℓ : Loc nD τ sig) → Buf (Elt Ideal) ℓ} {c : Dev nD}

/-- Column `q` of row `s` of block `j` of the result buffer. -/
def resAt (m : (ℓ : Loc nD τ sig) → Buf (Elt Ideal) ℓ) (c : Dev nD) (j : Fin 32) (s : Fin 64) (q : Fin 1024) : EReal := resAll m c (ix3 j s q)
/-- Column `q` of row `s` of block `j` of the buffer of returned results. -/
def backAt (m : (ℓ : Loc nD τ sig) → Buf (Elt Ideal) ℓ) (c : Dev nD) (j : Fin 32) (s : Fin 64) (q : Fin 1024) : EReal := backAll m c (ix3 j s q)

/-- Row `s` of block `j` of the result buffer, when the received row carries expert `k`. -/
theorem resAll_apply (j : Fin 32) (s : Fin 64) (h : Fin 1024) (k : ℕ) (hk : k < 4)
    (hr : recvAt m c j s 512 = ((k : ℝ) : EReal)) :
    resAt m c j s h = ∑ d : Fin 512, recvAt m c j s ⟨d.val, by omega⟩ * weightAt m c ⟨k, hk⟩ d h := by
  have hjl := j.isLt
  have e : resAll m c (ix3 j s h) = resGroup m c (j.val / 8) (ix3 ⟨j.val % 8, Nat.mod_lt _ (by decide)⟩ s h) :=
    congrArg (resGroup m c (j.val / 8)) (funext fun a => by fin_cases a <;> rfl)
  have ej : (⟨8 * (j.val / 8) + j.val % 8, by omega⟩ : Fin 32) = j := Fin.ext (by dsimp only; omega)
  refine e.trans ((resGroup_apply (j.val / 8) (by omega) ⟨j.val % 8, Nat.mod_lt _ (by decide)⟩ s h k hk ?_).trans ?_)
  · simp only [ej]; exact hr
  · simp only [ej]

/-- The owner of token `i`'s expert, as a device. -/
def ownerDev (m : (ℓ : Loc nD τ sig) → Buf (Elt Ideal) ℓ) (c : Dev nD) (i : Fin 1024) : Dev nD :=
  fwd c ⟨ringDist (rtin m c) c i, ringDist_lt _ _⟩

/-- Its number is that of the owner. -/
theorem ownerDev_val (h : Routed (rtin m c)) (i : Fin 1024) : (ownerDev m c i).val = ownerOf (rtin m c) i := by
  have h1 := h.owner_lt i
  have h2 : c.val < 32 := c.isLt
  show (c.val + (ownerOf (rtin m c) i + 32 - c.val) % 32) % 32 = _
  omega

/-- The expert's number on its owner. -/
def localOf (m : (ℓ : Loc nD τ sig) → Buf (Elt Ideal) ℓ) (c : Dev nD) (i : Fin 1024) : Fin 4 :=
  ⟨expertOf (rtin m c) i % 4, Nat.mod_lt _ (by decide)⟩

/-- What comes back to a token's slot. -/
theorem backAll_apply (h : Routed (rtin m c)) (i : Fin 1024) (q : Fin 1024) :
    backAt m c ⟨ringDist (rtin m c) c i, ringDist_lt _ _⟩ ⟨posOf (rtin m c) i, h.pos_lt i⟩ q
      = ∑ d : Fin 512, (gated m c (ix2 i d) : EReal) * weightAt m (ownerDev m c i) (localOf m c i) d q := by
  have hrecv : ∀ q, recvAt m (ownerDev m c i) ⟨ringDist (rtin m c) c i, ringDist_lt _ _⟩ ⟨posOf (rtin m c) i, h.pos_lt i⟩ q
      = payload m c i q := fun q => by
    have e : bwd (ownerDev m c i) ⟨ringDist (rtin m c) c i, ringDist_lt _ _⟩ = c := bwd_fwd _ _
    refine Eq.trans ?_ (sendAll_apply h i ⟨ringDist (rtin m c) c i, ringDist_lt _ _⟩ ⟨posOf (rtin m c) i, h.pos_lt i⟩ q rfl rfl)
    exact congrArg (fun c' => sendAll m c' (ix3 (⟨ringDist (rtin m c) c i, ringDist_lt _ _⟩ : Fin 32) (⟨posOf (rtin m c) i, h.pos_lt i⟩ : Fin 64) q)) e
  refine (resAll_apply (c := ownerDev m c i) _ _ q (expertOf (rtin m c) i % 4) (Nat.mod_lt _ (by decide)) ?_).trans ?_
  · rw [hrecv]
    exact eloc_apply h i
  · refine Finset.sum_congr rfl fun d _ => ?_
    rw [hrecv]
    unfold payload
    rw [dif_pos d.isLt]
    rfl

/-- The kernel's result at token `i`: the shared expert's product and the owner's. -/
theorem outAt_apply (h : Routed (rtin m c)) (i q : Fin 1024) :
    outAt m c (ix2 i q) = (∑ d : Fin 512, (xin m c (ix2 i d) : EReal) * swin m c (ix2 d q))
      + ∑ d : Fin 512, (gated m c (ix2 i d) : EReal) * weightAt m (ownerDev m c i) (localOf m c i) d q := by
  unfold outAt sharedOut
  pointwise [k0_pay46, k0_pay24, k0_pay1, dot_S1024x2048_S2048x1024_S1024x1024_1_0_0_1_n_n, dot_S1024x512_S512x1024_S1024x1024_1_0_0_1_n_n]
  refine congrArg _ ?_
  have hp := h.pos_lt i
  have hd := ringDist_lt (rt := rtin m c) c i
  have hs := h.slot_lt c i
  have key := sum_onehot (fun t : Fin 2048 => BitVec.ofNat 32 (slotOf (rtin m c) c i) = BitVec.ofNat 32 t.val)
    (fun t => backAt m c ⟨t.val / 64, by omega⟩ ⟨t.val % 64, by omega⟩ q) ⟨slotOf (rtin m c) c i, hs⟩ rfl
    (fun t e => Fin.ext ((ofNat_inj (by omega) (by omega)).1 e).symm)
  simp only [slotCol_apply h, onehot_apply]
  refine key.trans (Eq.trans ?_ (backAll_apply h i q))
  have e1 : slotOf (rtin m c) c i / 64 = ringDist (rtin m c) c i := by unfold slotOf; omega
  have e2 : slotOf (rtin m c) c i % 64 = posOf (rtin m c) i := by unfold slotOf; omega
  simp only [e1, e2]

end Cert.KernelIdeal.Moe

end
-- ==== Proof.Value.Run.lean ====
module
public import proofs.«01_k».proof.Proof.KernelIdeal.Launch
public import proofs.«01_k».proof.Proof.Value.Out
public import Idealize.ShloMosaic.Lib.Pipeline.Value

/-!
# The kernel's blocks are its whole arrays

There is one grid point, so a staged block is the argument itself and the flushed block is the whole result.
-/

@[expose] public section

noncomputable section

namespace Cert.KernelIdeal.Moe

open Cert.KernelIdeal Cert.KernelIdeal.Gen
open Idealize.ShloMosaic Idealize.ShloMosaic.TcCoe Idealize.ShloMosaic.Pipeline

variable (m : (ℓ : Loc nD τ sig) → Buf (Elt Ideal) ℓ) (ρ : Dev nD → PrngReg) (c : Dev nD)

/-- The staged tokens are the first argument. -/
theorem xin_eq : xin m c = m ((c.tc : Thread nD τ).loc main_arg0) :=
  funext fun i => congrArg (m ((c.tc : Thread nD τ).loc main_arg0)) (funext fun a => Fin.ext
    (Window.rect_emb_val_of_index_zero (cfg0.win 0) t0_0 a (by fin_cases a <;> rfl) i))

/-- The staged router weights are the second argument. -/
theorem rwin_eq : rwin m c = m ((c.tc : Thread nD τ).loc main_arg1) :=
  funext fun i => congrArg (m ((c.tc : Thread nD τ).loc main_arg1)) (funext fun a => Fin.ext
    (Window.rect_emb_val_of_index_zero (cfg0.win 1) t0_0 a (by fin_cases a <;> rfl) i))

/-- The staged routes are the third argument. -/
theorem rtin_eq : rtin m c = m ((c.tc : Thread nD τ).loc main_arg2) :=
  funext fun i => congrArg (m ((c.tc : Thread nD τ).loc main_arg2)) (funext fun a => Fin.ext
    (Window.rect_emb_val_of_index_zero (cfg0.win 2) t0_0 a (by fin_cases a <;> rfl) i))

/-- The staged expert weights are the fourth argument. -/
theorem ewin_eq : ewin m c = m ((c.tc : Thread nD τ).loc main_arg3) :=
  funext fun i => congrArg (m ((c.tc : Thread nD τ).loc main_arg3)) (funext fun a => Fin.ext
    (Window.rect_emb_val_of_index_zero (cfg0.win 3) t0_0 a (by fin_cases a <;> rfl) i))

/-- The staged shared expert is the fifth argument. -/
theorem swin_eq : swin m c = m ((c.tc : Thread nD τ).loc main_arg4) :=
  funext fun i => congrArg (m ((c.tc : Thread nD τ).loc main_arg4)) (funext fun a => Fin.ext
    (Window.rect_emb_val_of_index_zero (cfg0.win 4) t0_0 a (by fin_cases a <;> rfl) i))

/-- After the run the result array holds what the body computed. -/
theorem finalA_out : finalA m ρ c 5 = outAt m c := by
  have idx : ∀ i : S1024x1024.Idx, ∀ a, (((cfg0.win 5).blk t0_0).view.emb i a).val = (i a).val := fun i a =>
    Window.rect_emb_val_of_index_zero (cfg0.win 5) t0_0 a (by fin_cases a <;> rfl) i
  unfold finalA
  refine (dats m ρ 0 c).arrAt_eq_of_cover (5 : Fin 6) (outAt m c) ?_ ?_
  · intro t _
    obtain rfl := fin_N0 t
    funext i
    exact congrArg (outAt m c) (funext fun a => Fin.ext (idx i a).symm)
  · intro i
    refine ⟨t0_0, rfl, ?_⟩
    have e : ((cfg0.win 5).blk t0_0).view.emb i = i := funext fun a => Fin.ext (idx i a)
    exact e ▸ ((cfg0.win 5).blk t0_0).view.emb_mem_set i

end Cert.KernelIdeal.Moe

end
-- ==== Proof.Value.Gate.lean ====
module
public import Idealize.ShloMosaic.Lib.Pointwise

/-!
# The router's gate

A token's gate is its softmax probability at its expert. With finite tokens and router weights it is a real that is not
negative, so that scaling a token by it before a product or the product afterwards is the same.
-/

@[expose] public section

noncomputable section

namespace Cert.Gate

open Idealize.ShloMosaic

/-- A token's score for expert `e`. -/
def score (x : Fin 512 → EReal) (w : Fin 512 → Fin 128 → EReal) (e : Fin 128) : EReal := ∑ d, x d * w d e

/-- A token's greatest score. -/
def top (x : Fin 512 → EReal) (w : Fin 512 → Fin 128 → EReal) : EReal :=
  (Finset.univ : Finset (Fin 128)).fold max (Ideal.ofBits .f32 0xFF800000#32) (score x w)

/-- A token's softmax probability at expert `e`. -/
def gate (x : Fin 512 → EReal) (w : Fin 512 → Fin 128 → EReal) (e : Fin 128) : EReal :=
  Ideal.div (Ideal.exp (score x w e - top x w)) (∑ e', Ideal.exp (score x w e' - top x w))

/-- The value a maximum starts from is the least. -/
theorem ofBits_negInf : Ideal.ofBits .f32 0xFF800000#32 = ⊥ := by
  simp [Ideal.ofBits, Ideal.ieee]

/-- A sum of reals is the real sum. -/
theorem coe_sum {ι : Type*} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- The gate of a finite token under finite weights is a real that is not negative. -/
theorem gate_real (x : Fin 512 → EReal) (w : Fin 512 → Fin 128 → EReal) (hx : ∀ d, x d ≠ ⊤ ∧ x d ≠ ⊥)
    (hw : ∀ d e, w d e ≠ ⊤ ∧ w d e ≠ ⊥) (e : Fin 128) : 0 ≤ gate x w e ∧ gate x w e ≠ ⊤ := by
  have hs : ∀ e, score x w e ≠ ⊤ ∧ score x w e ≠ ⊥ := fun e => by
    have h : score x w e = ((∑ d, (x d).toReal * (w d e).toReal : ℝ) : EReal) := by
      unfold score
      rw [← coe_sum]
      refine Finset.sum_congr rfl fun d _ => ?_
      rw [EReal.coe_mul, EReal.coe_toReal (hx d).1 (hx d).2, EReal.coe_toReal (hw d e).1 (hw d e).2]
    rw [h]; exact ⟨EReal.coe_ne_top _, EReal.coe_ne_bot _⟩
  have ht : top x w ≠ ⊤ ∧ top x w ≠ ⊥ := by
    unfold top
    rw [ofBits_negInf]
    constructor
    · refine ne_of_lt (Finset.fold_max_lt _ |>.2 ⟨bot_lt_top, fun e _ => lt_top_iff_ne_top.2 (hs e).1⟩)
    · exact ne_of_gt ((Finset.lt_fold_max _).2 (.inr ⟨0, Finset.mem_univ _, bot_lt_iff_ne_bot.2 (hs 0).2⟩))
  have hexp : ∀ e, Ideal.exp (score x w e - top x w) = ((Real.exp ((score x w e).toReal - (top x w).toReal) : ℝ) : EReal) := fun e => by
    conv_lhs => rw [← EReal.coe_toReal (hs e).1 (hs e).2, ← EReal.coe_toReal ht.1 ht.2, ← EReal.coe_sub]
    rfl
  have hpos : 0 < ∑ e, Real.exp ((score x w e).toReal - (top x w).toReal) :=
    Finset.sum_pos (fun e _ => Real.exp_pos _) ⟨0, Finset.mem_univ _⟩
  have hg : gate x w e = ((Real.exp ((score x w e).toReal - (top x w).toReal)
      * (∑ e, Real.exp ((score x w e).toReal - (top x w).toReal))⁻¹ : ℝ) : EReal) := by
    unfold gate Ideal.div
    simp only [hexp, coe_sum]
    rw [if_neg (by rw [EReal.coe_eq_zero]; exact hpos.ne'), ← EReal.coe_inv, ← EReal.coe_mul]
  rw [hg]
  refine ⟨EReal.coe_nonneg.2 ?_, EReal.coe_ne_top _⟩
  exact mul_nonneg (Real.exp_pos _).le (inv_nonneg.2 hpos.le)

/-- A factor that is real and not negative moves out of a sum of products. -/
theorem sum_scaled {n : ℕ} (p : EReal) (h0 : 0 ≤ p) (ht : p ≠ ⊤) (x w : Fin n → EReal) :
    ∑ d, (x d * p) * w d = p * ∑ d, x d * w d := by
  have h : ∀ S : Finset (Fin n), ∑ d ∈ S, (x d * p) * w d = p * ∑ d ∈ S, x d * w d := fun S => by
    classical
    induction S using Finset.induction_on with
    | empty => simp
    | insert a S ha ih =>
      rw [Finset.sum_insert ha, Finset.sum_insert ha, ih, EReal.left_distrib_of_nonneg_of_ne_top h0 ht, mul_comm (x a) p, mul_assoc]
  exact h _

end Cert.Gate

end
-- ==== Proof.Value.Gated.lean ====
module
public import proofs.«01_k».proof.Proof.Value.Out
public import proofs.«01_k».proof.Proof.Value.Gate

/-!
# The kernel's gated tokens
-/

@[expose] public section

noncomputable section

namespace Cert.KernelIdeal.Moe

open Cert.KernelIdeal Cert.KernelIdeal.Gen
open Idealize.ShloMosaic Idealize.ShloMosaic.TcCoe Idealize.ShloMosaic.StableHlo.Predicate

/-- A sum over the experts in which only the token's own is taken. -/
theorem sum_select (r : BitVec 32) (e : Fin 128) (hr : r = BitVec.ofNat 32 e.val) (f : Fin 128 → EReal) :
    ∑ e', Scalar.select (IntOp.cmpi CmpIPredicate.eq (BitVec.ofNat 32 e'.val) r) (f e') 0 = f e := by
  have h : ∀ e' : Fin 128, Scalar.select (IntOp.cmpi CmpIPredicate.eq (BitVec.ofNat 32 e'.val) r) (f e') 0 = if e' = e then f e' else 0 := fun e' => by
    have he : (IntOp.cmpi CmpIPredicate.eq (BitVec.ofNat 32 e'.val) r = 1#1) ↔ e' = e := by
      have h1 := e.isLt; have h2 := e'.isLt
      rw [cmpi_eq_iff, hr, ofNat_inj (by omega) (by omega), Fin.ext_iff]
    by_cases hh : e' = e
    · rw [if_pos hh]; unfold Scalar.select; exact if_pos (he.2 hh)
    · rw [if_neg hh]; unfold Scalar.select; exact if_neg (fun h => hh (he.1 h))
  simp only [h, Finset.sum_ite_eq', Finset.mem_univ, if_true]

/-- A gated token is the token times its softmax probability at its expert. -/
theorem gated_of (x : Vec Ideal S1024x512 .bf16) (w : Vec Ideal S512x128 .bf16) (rt : Vec Ideal S1024x1 .i32) (i : Fin 1024) (d : Fin 512)
    (e : Fin 128) (hr : rt (ix2 i 0) = BitVec.ofNat 32 e.val) :
    (k0_pay4 x w rt (ix2 i d) : EReal) = (x (ix2 i d) : EReal) * Gate.gate (fun d => x (ix2 i d)) (fun d e => w (ix2 d e)) e := by
  pointwise [k0_pay4, k0_pay1, k0_pay2, dot_S1024x512_S512x128_S1024x128_1_0_0_1_n_n]
  refine congrArg (fun y : EReal => (x (ix2 i d) : EReal) * y) ?_
  rw [sum_select _ e hr]
  rfl

end Cert.KernelIdeal.Moe

end
-- ==== Proof.Value.Pre.lean ====
module
public import proofs.«01_k».proof.Proof.Value.Slots
public import proofs.«01_k».proof.Proof.Value.Gate
public import proofs.«01_k».proof.Pre_admissible_KernelIdeal

/-!
# What the precondition says of one device's blocks
-/

@[expose] public section

noncomputable section

namespace Cert.KernelIdeal.Moe

open Cert.KernelIdeal Cert.KernelIdeal.Gen
open Idealize.ShloMosaic Idealize.ShloMosaic.TcCoe Idealize.ShloMosaic.StableHlo.Predicate

/-- A conjunction of one-bit words that is true has only true members. -/
theorem fold_and_all {ι : Type*} (S : Finset ι) (f : ι → BitVec 1) (h : S.fold IntOp.andi (1#1) f = 1#1) : ∀ i ∈ S, f i = 1#1 := by
  classical
  induction S using Finset.induction_on with
  | empty => exact fun i hi => absurd hi (Finset.notMem_empty i)
  | insert a S ha ih =>
    rw [Finset.fold_insert ha, and_iff] at h
    intro i hi
    rcases Finset.mem_insert.1 hi with rfl | hi
    · exact h.1
    · exact ih h.2 i hi

/-- The same over a whole finite type. -/
theorem fold_univ_all {ι : Type*} [Fintype ι] (f : ι → BitVec 1) (h : Finset.univ.fold IntOp.andi (1#1) f = 1#1) (i : ι) : f i = 1#1 :=
  fold_and_all _ f h i (Finset.mem_univ i)

/-- The bound of the finiteness test is infinity. -/
theorem ofBits_inf : Ideal.ofBits .bf16 0x7F80#16 = ⊤ := by
  simp [Ideal.ofBits, Ideal.ieee]

/-- A value whose absolute value is below infinity is a real. -/
theorem finite_of_test (x : EReal) (h : BitVec.ofBool (decide (max x (-x) < Ideal.ofBits .bf16 0x7F80#16)) = 1#1) : x ≠ ⊤ ∧ x ≠ ⊥ := by
  rw [ofBool_eq_one_iff, decide_eq_true_iff, ofBits_inf] at h
  constructor
  · rintro rfl; simp at h
  · rintro rfl; simp at h

/-- A word between 0 and 128 as a signed number is one as a natural number. -/
theorem range_of_test (r : BitVec 32) (h0 : IntOp.cmpi CmpIPredicate.sge r 0#32 = 1#1) (h1 : IntOp.cmpi CmpIPredicate.slt r 128#32 = 1#1) :
    r.toNat < 128 := by
  have h0' : BitVec.ofBool ((0#32).sle r) = 1#1 := h0
  have h1' : BitVec.ofBool (r.slt 128#32) = 1#1 := h1
  rw [ofBool_eq_one_iff, BitVec.sle_iff_toInt_le] at h0'
  rw [ofBool_eq_one_iff, BitVec.slt_iff_toInt_lt] at h1'
  have e0 : (0#32).toInt = 0 := by decide
  have e1 : (128#32).toInt = 128 := by decide
  rw [e0, BitVec.toInt_eq_toNat_cond] at h0'
  rw [e1, BitVec.toInt_eq_toNat_cond] at h1'
  split at h0' <;> split at h1' <;> omega

/-- The device that owns an expert, as the precondition computes it. -/
theorem ownerQuo_word : ∀ n : Fin 128,
    Scalar.select
      (IntOp.andi
        (IntOp.cmpi (w := 32) CmpIPredicate.ne
          (if BitVec.ofNat 32 n.val = 0 then 0 else if BitVec.msb (BitVec.ofNat 32 n.val) = true then -1 else 1)
          (if (4#32) = 0 then 0 else if (4#32).msb = true then -1 else 1))
        (IntOp.cmpi CmpIPredicate.ne (IntOp.remsi ArithUnit.host (BitVec.ofNat 32 n.val) 4#32) 0#32))
      (IntOp.subi (IntOp.divsi ArithUnit.host (BitVec.ofNat 32 n.val) 4#32) 1#32)
      (IntOp.divsi ArithUnit.host (BitVec.ofNat 32 n.val) 4#32) = BitVec.ofNat 32 (n.val / 4) := by decide

/-- A count of tokens that passes the capacity test. -/
theorem load_of_test (n : ℕ) (hn : n ≤ 1024) (h : IntOp.cmpi CmpIPredicate.sle (BitVec.ofNat 32 n) 64#32 = 1#1) : n ≤ 64 := by
  have h' : BitVec.ofBool ((BitVec.ofNat 32 n).sle 64#32) = 1#1 := h
  rw [ofBool_eq_one_iff, BitVec.sle_iff_toInt_le] at h'
  have e1 : (64#32).toInt = 64 := by decide
  rw [e1, BitVec.toInt_eq_toNat_cond, BitVec.toNat_ofNat] at h'
  split at h' <;> omega

variable [Cert.Pre_admissible_KernelIdeal.Facts]

/-- Under the precondition the tokens and the router's weights are finite, and the routes are those of `Routed`. -/
theorem admissible_iff (x : Vec Ideal S1024x512 .bf16) (w : Vec Ideal S512x128 .bf16) (rt : Vec Ideal S1024x1 .i32)
    (ew : FVec Ideal S4x512x1024 .bf16) (sw : FVec Ideal S512x1024 .bf16)
    (h : Cert.Pre_admissible_KernelIdeal.fn x w rt ew sw = fun _ => 1#1) :
    (∀ i d, (x (ix2 i d) : EReal) ≠ ⊤ ∧ (x (ix2 i d) : EReal) ≠ ⊥) ∧ (∀ d e, (w (ix2 d e) : EReal) ≠ ⊤ ∧ (w (ix2 d e) : EReal) ≠ ⊥) ∧ Routed rt := by
  have h := congrFun h ix0
  pointwise [Cert.Pre_admissible_KernelIdeal.fn, Cert.Pre_admissible_KernelIdeal.fn_part1, Cert.Pre_admissible_KernelIdeal.fn_floor_divide,
    Cert.Pre_admissible_KernelIdeal.fn_where] at h
  simp only [and_iff] at h
  obtain ⟨⟨⟨hx, hw⟩, hr⟩, hl⟩ := h
  have hrt : ∀ i, expertOf rt i < 128 := fun i => by
    have := fold_univ_all _ hr (i, 0)
    rw [and_iff] at this
    exact range_of_test _ this.1 this.2
  refine ⟨fun i d => finite_of_test _ (fold_univ_all _ hx (i, d)),
    fun d e => finite_of_test _ (fold_univ_all _ hw (d, e)), hrt, fun d => ?_⟩
  have hd := fold_univ_all _ hl d
  have hq : ∀ t : Fin 1024, _ = BitVec.ofNat 32 (ownerOf rt t) := fun t => ownerQuo_word ⟨expertOf rt t, hrt t⟩
  have ht : ∀ t : Fin 1024, BitVec.ofNat 32 (expertOf rt t) = rt (ix2 t 0) := fun t => (word_eta _).symm
  simp only [ht] at hq
  have e4 : id (constantI Cert.Pre_admissible_KernelIdeal.S_ 32 4#32) ix0 = 4#32 := rfl
  simp only [e4, hq] at hd
  rw [count_word (fun t => ownerOf rt t = d.val)] at hd
  · refine load_of_test _ ?_ hd
    exact (Finset.card_le_univ _).trans (by simp)
  · intro t
    have h1 := hrt t; have h2 := d.isLt
    rw [cmpi_eq_iff]
    have hi := ofNat_inj (a := ownerOf rt t) (b := d.val) (by unfold ownerOf; omega) (by omega)
    exact ⟨fun h => hi.1 ((hq t).symm.trans h), fun h => (hq t).trans (hi.2 h)⟩

end Cert.KernelIdeal.Moe

end
-- ==== Proof.Value.Gather.lean ====
module
public import proofs.«01_k».proof.Proof.Gen.ReferenceIdeal.Run
public import Idealize.ShloMosaic.Lib.Pointwise

/-!
# The reference's two gathers

One reads a token's own entry of a row, the other takes a whole expert.
-/

@[expose] public section

noncomputable section

namespace Cert.ReferenceIdeal.Moe

open Cert.ReferenceIdeal Cert.ReferenceIdeal.Gen
open Idealize.ShloMosaic Idealize.ShloMosaic.TcCoe

/-- Column `e` of row `t`, when the row's index word is `e`. -/
theorem gather_entry (x : S32768x128.Idx → EReal) (idx : IVec S32768x1x1 32) (t : Fin 32768) (e : Fin 128)
    (he : (idx (ix3 t 0 0)).toInt.toNat = e.val) :
    Host.gather gather_S32768x128_S32768x1x1_S32768x1_n_1_0_0_1_2_11 x idx (ix2 t 0) = x (ix2 t e) := by
  unfold Host.gather
  congr 1
  funext a
  refine Fin.ext ?_
  show gather_S32768x128_S32768x1x1_S32768x1_n_1_0_0_1_2_11.start (ix2 t 0) idx a
      + gather_S32768x128_S32768x1x1_S32768x1_n_1_0_0_1_2_11.batchCoord (ix2 t 0) a
      + gather_S32768x128_S32768x1x1_S32768x1_n_1_0_0_1_2_11.offCoord (ix2 t 0) a = _
  have h01 : a = 0 ∨ a = 1 := by
    match a with
    | ⟨0, _⟩ => exact .inl rfl
    | ⟨1, _⟩ => exact .inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S32768x128_S32768x1x1_S32768x1_n_1_0_0_1_2_11.operandBatchingDims from List.mem_singleton.mpr rfl)]
    simp only [Nat.zero_add, Nat.add_zero]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ gather_S32768x128_S32768x1x1_S32768x1_n_1_0_0_1_2_11.startIndexMap from List.mem_singleton.mpr rfl)]
    have hsi : gather_S32768x128_S32768x1x1_S32768x1_n_1_0_0_1_2_11.siIdx (ix2 t 0)
        ⟨List.idxOf (1 : Fin 2) gather_S32768x128_S32768x1x1_S32768x1_n_1_0_0_1_2_11.startIndexMap,
          List.idxOf_lt_length_iff.2 (List.mem_singleton.mpr rfl)⟩ = ix3 t 0 0 := by
      funext b; refine Fin.ext ?_
      match b with
      | ⟨0, _⟩ => rfl
      | ⟨1, _⟩ => rfl
      | ⟨2, _⟩ => rfl
    rw [hsi, he]
    have := e.isLt
    show min e.val (128 - 1) + 0 + 0 = e.val
    omega

/-- Expert `e`'s weights, when the token's index word is `e`. -/
theorem gather_expert (x : S128x512x1024.Idx → EReal) (idx : IVec S32768x1 32) (t : Fin 32768) (d : Fin 512) (h : Fin 1024) (e : Fin 128)
    (he : (idx (ix2 t 0)).toInt.toNat = e.val) :
    Host.gather gather_S128x512x1024_S32768x1_S32768x512x1024_12_0_n_n_0_1_15121024 x idx (ix3 t d h) = x (ix3 e d h) := by
  unfold Host.gather
  congr 1
  funext a
  refine Fin.ext ?_
  show gather_S128x512x1024_S32768x1_S32768x512x1024_12_0_n_n_0_1_15121024.start (ix3 t d h) idx a
      + gather_S128x512x1024_S32768x1_S32768x512x1024_12_0_n_n_0_1_15121024.batchCoord (ix3 t d h) a
      + gather_S128x512x1024_S32768x1_S32768x512x1024_12_0_n_n_0_1_15121024.offCoord (ix3 t d h) a = _
  rw [GatherDims.batchCoord_eq_zero _ _ _ (show a ∉ ([] : List (Fin 3)) from List.not_mem_nil)]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ gather_S128x512x1024_S32768x1_S32768x512x1024_12_0_n_n_0_1_15121024.startIndexMap from List.mem_singleton.mpr rfl)]
    have hsi : gather_S128x512x1024_S32768x1_S32768x512x1024_12_0_n_n_0_1_15121024.siIdx (ix3 t d h)
        ⟨List.idxOf (0 : Fin 3) gather_S128x512x1024_S32768x1_S32768x512x1024_12_0_n_n_0_1_15121024.startIndexMap,
          List.idxOf_lt_length_iff.2 (List.mem_singleton.mpr rfl)⟩ = ix2 t 0 := by
      funext b; refine Fin.ext ?_
      match b with
      | ⟨0, _⟩ => rfl
      | ⟨1, _⟩ => rfl
    rw [hsi, he]
    have := e.isLt
    show min e.val (128 - 1) + 0 + 0 = e.val
    omega
  · unfold GatherDims.start GatherDims.offCoord
    rw [dif_neg (show (1 : Fin 3) ∉ gather_S128x512x1024_S32768x1_S32768x512x1024_12_0_n_n_0_1_15121024.startIndexMap from show (1 : Fin 3) ∉ ([0] : List (Fin 3)) by decide),
      dif_pos ((GatherDims.mem_sKept gather_S128x512x1024_S32768x1_S32768x512x1024_12_0_n_n_0_1_15121024 (1 : Fin 3)).2
        ⟨show (1 : Fin 3) ∉ ([0] : List (Fin 3)) by decide, show (1 : Fin 3) ∉ ([] : List (Fin 3)) by decide⟩)]
    simp only [Nat.zero_add, Nat.add_zero]
    rfl
  · unfold GatherDims.start GatherDims.offCoord
    rw [dif_neg (show (2 : Fin 3) ∉ gather_S128x512x1024_S32768x1_S32768x512x1024_12_0_n_n_0_1_15121024.startIndexMap from show (2 : Fin 3) ∉ ([0] : List (Fin 3)) by decide),
      dif_pos ((GatherDims.mem_sKept gather_S128x512x1024_S32768x1_S32768x512x1024_12_0_n_n_0_1_15121024 (2 : Fin 3)).2
        ⟨show (2 : Fin 3) ∉ ([0] : List (Fin 3)) by decide, show (2 : Fin 3) ∉ ([] : List (Fin 3)) by decide⟩)]
    simp only [Nat.zero_add, Nat.add_zero]
    rfl

/-- A sum of products with the weights of the token's expert. -/
theorem sum_gather_expert (x : S128x512x1024.Idx → EReal) (idx : IVec S32768x1 32) (t : Fin 32768) (h : Fin 1024) (e : Fin 128)
    (f : Fin 512 → EReal) (he : (idx (ix2 t 0)).toInt.toNat = e.val) :
    ∑ d, f d * Host.gather gather_S128x512x1024_S32768x1_S32768x512x1024_12_0_n_n_0_1_15121024 x idx (ix3 t d h) = ∑ d, f d * x (ix3 e d h) :=
  Finset.sum_congr rfl fun d _ => congrArg (fun y : EReal => f d * y) (gather_expert x idx t d h e he)

end Cert.ReferenceIdeal.Moe

end
-- ==== Proof.Value.Reference.lean ====
module
public import proofs.«01_k».proof.Proof.Value.Gather
public import proofs.«01_k».proof.Proof.Value.Gate

/-!
# The reference's result at a token

The shared expert's product and the product with the token's own expert, scaled by the token's gate.
-/

@[expose] public section

noncomputable section

namespace Cert.ReferenceIdeal.Moe

open Cert.ReferenceIdeal Cert.ReferenceIdeal.Gen Cert.ReferenceIdeal.Value
open Idealize.ShloMosaic Idealize.ShloMosaic.TcCoe

variable (m : (ℓ : Loc nD τ sig) → Buf (Elt Ideal) ℓ) (c : Dev nD)

/-- Entry `d` of token `t`. -/
def tok (t : Fin 32768) (d : Fin 512) : EReal := m ((c.tc : Thread nD τ).loc main_arg0) (ix2 t d)
/-- The router's weight of entry `d` for expert `e`. -/
def router (d : Fin 512) (e : Fin 128) : EReal := m ((c.tc : Thread nD τ).loc main_arg1) (ix2 d e)
/-- Token `t`'s expert, as a word. -/
def routeW (t : Fin 32768) : BitVec 32 := m ((c.tc : Thread nD τ).loc main_arg2) (ix2 t 0)
/-- Weight `(d, h)` of expert `e`. -/
def expert (e : Fin 128) (d : Fin 512) (h : Fin 1024) : EReal := m ((c.tc : Thread nD τ).loc main_arg3) (ix3 e d h)
/-- Weight `(d, h)` of the shared expert. -/
def shared (d : Fin 512) (h : Fin 1024) : EReal := m ((c.tc : Thread nD τ).loc main_arg4) (ix2 d h)
/-- Column `h` of the result at token `t`. -/
def result (t : Fin 32768) (h : Fin 1024) : EReal := res_out0 m c (ix2 t h)

/-- An expert's number is not negative, so the wrap of negative numbers leaves it. -/
theorem wrap_word : ∀ e : Fin 128, Scalar.select (IntOp.cmpi CmpIPredicate.slt (BitVec.ofNat 32 e.val) 0#32)
    (IntOp.addi (BitVec.ofNat 32 e.val) 128#32) (BitVec.ofNat 32 e.val) = BitVec.ofNat 32 e.val := by decide

/-- An expert's number read as an integer. -/
theorem toInt_word : ∀ e : Fin 128, (BitVec.ofNat 32 e.val).toInt.toNat = e.val := by decide

/-- An expert's number passes the range check of the gather. -/
theorem mask_word : ∀ e : Fin 128, IntOp.andi (IntOp.cmpi CmpIPredicate.sge (BitVec.ofNat 32 e.val) 0#32)
    (IntOp.cmpi CmpIPredicate.sle (BitVec.ofNat 32 e.val) 127#32) = 1#1 := by decide

/-- The conjunction of one true word is true. -/
theorem fold_one : (Finset.univ : Finset (Fin 1)).fold IntOp.andi (1#1) (fun _ => 1#1) = 1#1 := by decide

/-- The reference's result at token `t`, whose expert is `e`. -/
theorem result_apply (t : Fin 32768) (h : Fin 1024) (e : Fin 128) (he : routeW m c t = BitVec.ofNat 32 e.val) :
    result m c t h = (∑ d, tok m c t d * shared m c d h)
      + Gate.gate (tok m c t) (router m c) e * ∑ d, tok m c t d * expert m c e d h := by
  have he' : m ((c.tc : Thread nD τ).loc main_arg2) (ix2 t 0) = BitVec.ofNat 32 e.val := he
  unfold result
  pointwise [res_out0, res_main_v27, dot_S32768x512_S512x1024_S32768x1024_1_0_0_1_n_n,
    dot_S32768x512_S32768x512x1024_S32768x1024_1_1_n_2_0_0]
  rw [gather_entry _ _ t e ?entry, sum_gather_expert _ _ t h e _ ?row]
  case entry => pointwise []; rw [he', wrap_word, toInt_word]
  case row => pointwise []; rw [he', wrap_word, toInt_word]
  pointwise [dot_S32768x512_S512x128_S32768x128_1_0_0_1_n_n]
  simp only [he', wrap_word, mask_word, fold_one]
  rfl

end Cert.ReferenceIdeal.Moe

end
-- ==== Proof.Value.Equation.lean ====
module
public import proofs.«01_k».proof.Defs
public import proofs.«01_k».proof.Proof.Value.Run
public import proofs.«01_k».proof.Proof.Value.Gated
public import proofs.«01_k».proof.Proof.Value.Pre
public import proofs.«01_k».proof.Proof.Value.Reference

/-!
# The kernel's result is the reference's

Token `i` of device `c` is token `1024 c + i` of the whole array, and expert `r` is expert `r % 4` of device `r / 4`.
-/

@[expose] public section

noncomputable section

namespace Cert.KernelIdeal.Moe

open Cert.KernelIdeal Cert.KernelIdeal.Gen
open Idealize.ShloMosaic Idealize.ShloMosaic.TcCoe

/-- Row `i` of block `c` of an array cut along its rows. -/
theorem block_rows {α : Type} {n p q : ℕ} (h : Layout.Tiles ⟨2, ![n, q]⟩ ⟨2, ![p, q]⟩ 0 32) (c : Fin 32)
    (v : (⟨2, ![p, q]⟩ : Shape).Idx → α) (i : Fin n) (j : Fin q) (t : Fin p) (ht : t.val = c.val * n + i.val) :
    Layout.block ⟨2, ![n, q]⟩ ⟨2, ![p, q]⟩ 0 32 c v h (ix2 i j) = v (ix2 t j) := by
  refine congrArg v (funext fun a => Fin.ext ?_)
  match a with
  | ⟨0, _⟩ => exact ht.symm
  | ⟨1, _⟩ => rfl

/-- Matrix `k` of block `c` of a stack of matrices cut along its first axis. -/
theorem block_stack {α : Type} {n p q r : ℕ} (h : Layout.Tiles ⟨3, ![n, q, r]⟩ ⟨3, ![p, q, r]⟩ 0 32) (c : Fin 32)
    (v : (⟨3, ![p, q, r]⟩ : Shape).Idx → α) (k : Fin n) (i : Fin q) (j : Fin r) (t : Fin p) (ht : t.val = c.val * n + k.val) :
    Layout.block ⟨3, ![n, q, r]⟩ ⟨3, ![p, q, r]⟩ 0 32 c v h (ix3 k i j) = v (ix3 t i j) := by
  refine congrArg v (funext fun a => Fin.ext ?_)
  match a with
  | ⟨0, _⟩ => exact ht.symm
  | ⟨1, _⟩ => rfl
  | ⟨2, _⟩ => rfl

/-- The reference's device. -/
abbrev refDev : Dev Cert.ReferenceIdeal.nD := (0 : Fin 1)

/-- What the kernel's devices hold of the reference's arguments. -/
structure Shares (m : (ℓ : Loc nD τ sig) → Buf (Elt Ideal) ℓ)
    (m' : (ℓ : Loc Cert.ReferenceIdeal.nD Cert.ReferenceIdeal.τ Cert.ReferenceIdeal.sig) → Buf (Elt Ideal) ℓ) : Prop where
  tok : ∀ (c : Dev nD) (i : Fin 1024) (d : Fin 512) (t : Fin 32768), t.val = c.val * 1024 + i.val →
    (xin m c (ix2 i d) : EReal) = ReferenceIdeal.Moe.tok m' refDev t d
  router : ∀ (c : Dev nD) (d : Fin 512) (e : Fin 128), (rwin m c (ix2 d e) : EReal) = ReferenceIdeal.Moe.router m' refDev d e
  route : ∀ (c : Dev nD) (i : Fin 1024) (t : Fin 32768), t.val = c.val * 1024 + i.val →
    (rtin m c (ix2 i 0) : BitVec 32) = ReferenceIdeal.Moe.routeW m' refDev t
  expert : ∀ (c : Dev nD) (k : Fin 4) (d : Fin 512) (h : Fin 1024) (e : Fin 128), e.val = c.val * 4 + k.val →
    weightAt m c k d h = ReferenceIdeal.Moe.expert m' refDev e d h
  shared : ∀ (c : Dev nD) (d : Fin 512) (h : Fin 1024), (swin m c (ix2 d h) : EReal) = ReferenceIdeal.Moe.shared m' refDev d h

/-- The kernel's result at token `i` of device `c` is the reference's at token `1024 c + i`. -/
theorem outAt_eq_result {m : (ℓ : Loc nD τ sig) → Buf (Elt Ideal) ℓ}
    {m' : (ℓ : Loc Cert.ReferenceIdeal.nD Cert.ReferenceIdeal.τ Cert.ReferenceIdeal.sig) → Buf (Elt Ideal) ℓ}
    (hs : Shares m m') (c : Dev nD) (hx : ∀ i d, (xin m c (ix2 i d) : EReal) ≠ ⊤ ∧ (xin m c (ix2 i d) : EReal) ≠ ⊥)
    (hw : ∀ d e, (rwin m c (ix2 d e) : EReal) ≠ ⊤ ∧ (rwin m c (ix2 d e) : EReal) ≠ ⊥) (hr : Routed (rtin m c))
    (i q : Fin 1024) (t : Fin 32768) (ht : t.val = c.val * 1024 + i.val) :
    (outAt m c (ix2 i q) : EReal) = ReferenceIdeal.Moe.result m' refDev t q := by
  have he : (rtin m c (ix2 i 0) : BitVec 32) = BitVec.ofNat 32 (expertOf (rtin m c) i) := word_eta _
  have e_lt := hr.expert_lt i
  rw [ReferenceIdeal.Moe.result_apply m' refDev t q ⟨expertOf (rtin m c) i, e_lt⟩ ((hs.route c i t ht).symm.trans he)]
  refine (outAt_apply hr i q).trans (congrArg₂ (fun a b : EReal => a + b) ?_ ?_)
  · exact Finset.sum_congr rfl fun d _ => congrArg₂ (fun a b : EReal => a * b) (hs.tok c i d t ht) (hs.shared c d q)
  · have hg := Gate.gate_real (fun d => xin m c (ix2 i d)) (fun d e => rwin m c (ix2 d e)) (hx i) hw ⟨expertOf (rtin m c) i, e_lt⟩
    have hrow : (fun d => (xin m c (ix2 i d) : EReal)) = ReferenceIdeal.Moe.tok m' refDev t := funext fun d => hs.tok c i d t ht
    have hmat : (fun d e => (rwin m c (ix2 d e) : EReal)) = ReferenceIdeal.Moe.router m' refDev := funext fun d => funext fun e => hs.router c d e
    rw [hrow, hmat] at hg
    rw [← Gate.sum_scaled _ hg.1 hg.2]
    refine Finset.sum_congr rfl fun d _ => congrArg₂ (fun a b : EReal => a * b) ?_ ?_
    · refine (gated_of (xin m c) (rwin m c) (rtin m c) i d ⟨expertOf (rtin m c) i, e_lt⟩ he).trans ?_
      rw [hrow, hmat]
      exact congrArg (fun a : EReal => a * _) (hs.tok c i d t ht)
    · refine hs.expert _ _ d q _ ?_
      rw [ownerDev_val hr]
      show expertOf (rtin m c) i = expertOf (rtin m c) i / 4 * 4 + expertOf (rtin m c) i % 4
      omega

end Cert.KernelIdeal.Moe

end
-- ==== Proof.Algebraic.lean ====
module
public import proofs.«01_k».proof.Defs
public import proofs.«01_k».proof.Proof.Value.Equation

/-!
# The value claim

Under the precondition each device's result is its block of the reference's.
-/

@[expose] public section

noncomputable section

namespace Cert.Proof

open Cert.KernelIdeal.Moe
open Idealize.ShloMosaic Idealize.ShloMosaic.TcCoe Idealize.SL.Sem

/-- The kernel in exact arithmetic computes the reference's blocks. -/
theorem algebraic [Cert.Pre_admissible_KernelIdeal.Facts] :
    Cert.algebraic_KernelIdeal_ReferenceIdeal_pre_admissible_KernelIdeal := by
  intro m g m' g' hpre hargs
  have hs : Shares m m' :=
    { tok := fun c i d t ht => (congrFun ((xin_eq m c).trans (hargs c).1) (ix2 i d)).trans (block_rows _ c _ i d t ht)
      router := fun c d e => congrFun ((rwin_eq m c).trans (hargs c).2.1) (ix2 d e)
      route := fun c i t ht => (congrFun ((rtin_eq m c).trans (hargs c).2.2.1) (ix2 i 0)).trans (block_rows _ c _ i 0 t ht)
      expert := fun c k d h e he => (congrFun ((ewin_eq m c).trans (hargs c).2.2.2.1) (ix3 k d h)).trans (block_stack _ c _ k d h e he)
      shared := fun c d h => congrFun ((swin_eq m c).trans (hargs c).2.2.2.2) (ix2 d h) }
  have hout : ∀ c : Dev Cert.KernelIdeal.nD, outAt m c
      = Layout.block ⟨2, ![1024, 1024]⟩ ⟨2, ![32768, 1024]⟩ 0 32 c (Cert.ReferenceIdeal.Value.res_main_v27 m' refDev) := fun c => by
    have hc := hpre c
    rw [← xin_eq m c, ← rwin_eq m c, ← rtin_eq m c] at hc
    obtain ⟨hx, hw, hr⟩ := admissible_iff _ _ _ _ _ hc
    funext j
    have hj : j = ix2 (j 0) (j 1) := funext fun a => by fin_cases a <;> rfl
    have hlt : c.val * 1024 + (j 0).val < 32768 := by
      have h1 : c.val < 32 := c.isLt
      have h2 : (j 0).val < 1024 := (j 0).isLt
      omega
    rw [hj]
    exact (outAt_eq_result hs c hx hw hr (j 0) (j 1) ⟨_, hlt⟩ rfl).trans (block_rows _ c _ (j 0) (j 1) ⟨_, hlt⟩ rfl).symm
  refine ⟨Cert.ReferenceIdeal.Value.res_main_v27 m' refDev, ?_, ?_⟩
  · refine (θ_run Cert.KernelIdeal.defs _ _).mono (fun _ h c => ?_) (run_main (F := Ideal) m g)
    exact ⟨((h.1 c (5 : Fin 6)).trans (finalA_out m g c)).trans (hout c),
      (h.1 c (0 : Fin 6)).trans (finalA_in m g c 0 rfl), (h.1 c (1 : Fin 6)).trans (finalA_in m g c 1 rfl),
      (h.1 c (2 : Fin 6)).trans (finalA_in m g c 2 rfl), (h.1 c (3 : Fin 6)).trans (finalA_in m g c 3 rfl),
      (h.1 c (4 : Fin 6)).trans (finalA_in m g c 4 rfl)⟩
  · exact (θ_run Cert.ReferenceIdeal.defs _ _).mono (fun _ h => h refDev) (Cert.ReferenceIdeal.Value.run (F := Ideal) m' g')

end Cert.Proof

end

end
-- ==== Proof.lean ====
/- The claims of this certificate, put together. -/
module

public import proofs.«01_k».proof.Defs
public import proofs.«01_k».proof.Proof.Frames
public import proofs.«01_k».proof.Proof.Algebraic

@[expose] public section

noncomputable section

namespace Cert.Proof

/-- The shape facts the precondition's operations take, on one device's blocks. -/
theorem preFacts : Cert.Pre_admissible_KernelIdeal.Facts := by constructor <;> decide

/-- The shape facts the precondition's operations take, on the reference's arrays. -/
theorem preFactsRef : Cert.Pre_admissible_ReferenceIdeal.Facts := by constructor <;> decide

/-- Every claim of the certificate. A frame under the precondition is the frame without it. -/
theorem claim : Cert.Claim := ⟨Cert.Kernel.Gen.facts, Cert.KernelIdeal.Gen.facts, Cert.ReferenceIdeal.Gen.facts, preFacts, preFactsRef,
  frame_kernel, frame_kernelIdeal, fun m ρ _ => frame_kernelIdeal m ρ trivial, frame_referenceIdeal,
  fun m ρ _ => frame_referenceIdeal m ρ trivial, preserves, @algebraic preFacts⟩

end Cert.Proof

end
